-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def preserves_Kernel_KernelIdeal : Prop :=
  True

def preserves_Kernel3_Kernel3Ideal : Prop :=
  True

def preserves_Kernel4_Kernel4Ideal : Prop :=
  True

def preserves_Kernel5_Kernel5Ideal : Prop :=
  True

def preserves_Kernel6_Kernel6Ideal : Prop :=
  True

def preserves_Kernel7_Kernel7Ideal : Prop :=
  True

def preserves_Kernel8_Kernel8Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_v11) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_2)) (v2 : (c : Dev Cert.Kernel8Ideal.nD) → Buf (Elt Ideal) ((c.tc : Thread Cert.Kernel8Ideal.nD Cert.Kernel8Ideal.τ).loc Cert.Kernel8Ideal.main_v0_5)) (v3 : (c : Dev Cert.Kernel8Ideal.nD) → Buf (Elt Ideal) ((c.tc : Thread Cert.Kernel8Ideal.nD Cert.Kernel8Ideal.τ).loc Cert.Kernel8Ideal.main_v0_6)) (v4 : (c : Dev Cert.Kernel8Ideal.nD) → Buf (Elt Ideal) ((c.tc : Thread Cert.Kernel8Ideal.nD Cert.Kernel8Ideal.τ).loc Cert.Kernel8Ideal.main_v0_7)) (v5 : (c : Dev Cert.Kernel8Ideal.nD) → Buf (Elt Ideal) ((c.tc : Thread Cert.Kernel8Ideal.nD Cert.Kernel8Ideal.τ).loc Cert.Kernel8Ideal.main_v0_8)) (v6 : (c : Dev Cert.Kernel8Ideal.nD) → Buf (Elt Ideal) ((c.tc : Thread Cert.Kernel8Ideal.nD Cert.Kernel8Ideal.τ).loc Cert.Kernel8Ideal.main_v0_9)) (v7 : (c : Dev Cert.Kernel8Ideal.nD) → Buf (Elt Ideal) ((c.tc : Thread Cert.Kernel8Ideal.nD Cert.Kernel8Ideal.τ).loc Cert.Kernel8Ideal.main_v0_10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_2) = v1 c
          ∧ r.2.mem ((c.tc : Thread Cert.Kernel8Ideal.nD Cert.Kernel8Ideal.τ).loc Cert.Kernel8Ideal.main_v0_5) = v2 c
          ∧ r.2.mem ((c.tc : Thread Cert.Kernel8Ideal.nD Cert.Kernel8Ideal.τ).loc Cert.Kernel8Ideal.main_v0_6) = v3 c
          ∧ r.2.mem ((c.tc : Thread Cert.Kernel8Ideal.nD Cert.Kernel8Ideal.τ).loc Cert.Kernel8Ideal.main_v0_7) = v4 c
          ∧ r.2.mem ((c.tc : Thread Cert.Kernel8Ideal.nD Cert.Kernel8Ideal.τ).loc Cert.Kernel8Ideal.main_v0_8) = v5 c
          ∧ r.2.mem ((c.tc : Thread Cert.Kernel8Ideal.nD Cert.Kernel8Ideal.τ).loc Cert.Kernel8Ideal.main_v0_9) = v6 c
          ∧ r.2.mem ((c.tc : Thread Cert.Kernel8Ideal.nD Cert.Kernel8Ideal.τ).loc Cert.Kernel8Ideal.main_v0_10) = v7 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v91) = v0 c
          ∧ r.2.mem ((c.tc : Thread Cert.Reference8Ideal.nD Cert.Reference8Ideal.τ).loc Cert.Reference8Ideal.main_v96) = v1 c
          ∧ r.2.mem ((c.tc : Thread Cert.Reference8Ideal.nD Cert.Reference8Ideal.τ).loc Cert.Reference8Ideal.main_v97) = v2 c
          ∧ r.2.mem ((c.tc : Thread Cert.Reference8Ideal.nD Cert.Reference8Ideal.τ).loc Cert.Reference8Ideal.main_v98) = v3 c
          ∧ r.2.mem ((c.tc : Thread Cert.Reference8Ideal.nD Cert.Reference8Ideal.τ).loc Cert.Reference8Ideal.main_v99) = v4 c
          ∧ r.2.mem ((c.tc : Thread Cert.Reference8Ideal.nD Cert.Reference8Ideal.τ).loc Cert.Reference8Ideal.main_v100) = v5 c
          ∧ r.2.mem ((c.tc : Thread Cert.Reference8Ideal.nD Cert.Reference8Ideal.τ).loc Cert.Reference8Ideal.main_v101) = v6 c
          ∧ r.2.mem ((c.tc : Thread Cert.Reference8Ideal.nD Cert.Reference8Ideal.τ).loc Cert.Reference8Ideal.main_v102) = v7 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ preserves_Kernel3_Kernel3Ideal
    ∧ preserves_Kernel4_Kernel4Ideal
    ∧ preserves_Kernel5_Kernel5Ideal
    ∧ preserves_Kernel6_Kernel6Ideal
    ∧ preserves_Kernel7_Kernel7Ideal
    ∧ preserves_Kernel8_Kernel8Ideal
    ∧ algebraic_Kernel3Ideal_Reference3Ideal (hKernel3Ideal := hKernel3Ideal) (hReference3Ideal := hReference3Ideal)
    ∧ algebraic_KernelIdeal_ReferenceIdeal (hKernelIdeal := hKernelIdeal) (hReferenceIdeal := hReferenceIdeal)
    ∧ algebraic_Kernel4Ideal_Reference4Ideal (hKernel4Ideal := hKernel4Ideal) (hReference4Ideal := hReference4Ideal)
    ∧ algebraic_Kernel5Ideal_Reference5Ideal (hKernel5Ideal := hKernel5Ideal) (hReference5Ideal := hReference5Ideal)
    ∧ algebraic_Kernel6Ideal_Reference6Ideal (hKernel6Ideal := hKernel6Ideal) (hReference6Ideal := hReference6Ideal)
    ∧ algebraic_Kernel7Ideal_Reference7Ideal (hKernel7Ideal := hKernel7Ideal) (hReference7Ideal := hReference7Ideal)
    ∧ algebraic_Kernel8Ideal_Reference8Ideal (hKernel8Ideal := hKernel8Ideal) (hReference8Ideal := hReference8Ideal)
-- ==== Kernel.lean ====
abbrev S8192x3072 : Shape := ⟨2, ![8192, 3072]⟩
abbrev S8192x1024 : Shape := ⟨2, ![8192, 1024]⟩
abbrev S8192x512 : Shape := ⟨2, ![8192, 512]⟩
abbrev S4x1024x2176 : Shape := ⟨3, ![4, 1024, 2176]⟩
abbrev S1x1024 : Shape := ⟨2, ![1, 1024]⟩
abbrev S4x512x1088 : Shape := ⟨3, ![4, 512, 1088]⟩
abbrev S8x1024 : Shape := ⟨2, ![8, 1024]⟩
abbrev S512x3072 : Shape := ⟨2, ![512, 3072]⟩
abbrev S512x1024 : Shape := ⟨2, ![512, 1024]⟩
abbrev S512x512 : Shape := ⟨2, ![512, 512]⟩
abbrev S512x2176 : Shape := ⟨2, ![512, 2176]⟩
abbrev S1x1024x2176 : Shape := ⟨3, ![1, 1024, 2176]⟩
abbrev S1024x2176 : Shape := ⟨2, ![1024, 2176]⟩
abbrev S512x896 : Shape := ⟨2, ![512, 896]⟩
abbrev S1x1024x896 : Shape := ⟨3, ![1, 1024, 896]⟩
abbrev S1024x896 : Shape := ⟨2, ![1024, 896]⟩
abbrev S1x1024x1024 : Shape := ⟨3, ![1, 1024, 1024]⟩
abbrev S1024x1024 : Shape := ⟨2, ![1024, 1024]⟩
abbrev S512x256 : Shape := ⟨2, ![512, 256]⟩
abbrev S1x1024x256 : Shape := ⟨3, ![1, 1024, 256]⟩
abbrev S1024x256 : Shape := ⟨2, ![1024, 256]⟩
abbrev S512x768 : Shape := ⟨2, ![512, 768]⟩
abbrev S1x1024x768 : Shape := ⟨3, ![1, 1024, 768]⟩
abbrev S1024x768 : Shape := ⟨2, ![1024, 768]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S8192x3072, .bf16⟩
  | .hbm, ⟨5, _⟩ => ⟨S4x1024x2176, .bf16⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S4x512x1088, .bf16⟩
  | .hbm, ⟨10, _⟩ => ⟨S8192x1024, .f32⟩
  | .hbm, ⟨11, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S4x1024x2176, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x2176 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x3072 : Shape := ⟨2, ![8192, 3072]⟩
abbrev S8192x1024 : Shape := ⟨2, ![8192, 1024]⟩
abbrev S8192x512 : Shape := ⟨2, ![8192, 512]⟩
abbrev S4x1024x2176 : Shape := ⟨3, ![4, 1024, 2176]⟩
abbrev S1x1024 : Shape := ⟨2, ![1, 1024]⟩
abbrev S4x512x1088 : Shape := ⟨3, ![4, 512, 1088]⟩
abbrev S8192x8704 : Shape := ⟨2, ![8192, 8704]⟩
abbrev S1024x4x2176 : Shape := ⟨3, ![1024, 4, 2176]⟩
abbrev S1024x8704 : Shape := ⟨2, ![1024, 8704]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S8192x3072, .bf16⟩
  | .hbm, ⟨5, _⟩ => ⟨S4x1024x2176, .bf16⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S4x512x1088, .bf16⟩
  | .hbm, ⟨10, _⟩ => ⟨S8192x8704, .bf16⟩
  | .hbm, ⟨11, _⟩ => ⟨S8192x8704, .f32⟩
  | .hbm, ⟨12, _⟩ => ⟨S4x1024x2176, .f32⟩
  | .hbm, ⟨13, _⟩ => ⟨S1024x4x2176, .f32⟩
  | .hbm, ⟨14, _⟩ => ⟨S1024x8704, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x8704, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .i32⟩
  | .hbm, ⟨61, _⟩ => ⟨S_, .f32⟩
  | .hbm, ⟨62, _⟩ => ⟨S8x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c : Ref sig .tc := ⟨.hbm, 60, rfl⟩
abbrev main_call0_v0 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel3.lean ====
abbrev S8192x1024 : Shape := ⟨2, ![8192, 1024]⟩
abbrev S1024x8704 : Shape := ⟨2, ![1024, 8704]⟩
abbrev S1024x1024 : Shape := ⟨2, ![1024, 1024]⟩
abbrev S512x1024 : Shape := ⟨2, ![512, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1024x8704, .bf16⟩
  | .hbm, ⟨7, _⟩ => ⟨S1024x1024, .f32⟩
  | .hbm, ⟨8, _⟩ => ⟨S1024x1024, .f32⟩
  | .hbm, ⟨9, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference3Ideal.lean ====
abbrev S8192x1024 : Shape := ⟨2, ![8192, 1024]⟩
abbrev S1024x8704 : Shape := ⟨2, ![1024, 8704]⟩
abbrev S1024x8192 : Shape := ⟨2, ![1024, 8192]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1024x8704, .bf16⟩
  | .hbm, ⟨7, _⟩ => ⟨S8192x1024, .f32⟩
  | .hbm, ⟨8, _⟩ => ⟨S1024x8192, .f32⟩
  | .hbm, ⟨9, _⟩ => ⟨S8192x1024, .f32⟩
  | .hbm, ⟨10, _⟩ => ⟨S1024x1024, .f32⟩
  | .hbm, ⟨11, _⟩ => ⟨S8192x1024, .f32⟩
  | .hbm, ⟨12, _⟩ => ⟨S1024x8192, .f32⟩
  | .hbm, ⟨13, _⟩ => ⟨S8192x1024, .f32⟩
  | .hbm, ⟨14, _⟩ => ⟨S1024x1024, .f32⟩
  | .hbm, ⟨15, _⟩ => ⟨S8192x1024, .f32⟩
  | .hbm, ⟨16, _⟩ => ⟨S1024x8192, .f32⟩
  | .hbm, ⟨17, _⟩ => ⟨S8192x1024, .f32⟩
  | .hbm, ⟨18, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel4.lean ====
abbrev S1024x8192 : Shape := ⟨2, ![1024, 8192]⟩
abbrev S8192x3072 : Shape := ⟨2, ![8192, 3072]⟩
abbrev S1024x8704 : Shape := ⟨2, ![1024, 8704]⟩
abbrev S8192x512 : Shape := ⟨2, ![8192, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S1024x8704, .bf16⟩
  | .hbm, ⟨3, _⟩ => ⟨S1024x8704, .bf16⟩
  | .local _ .vmem, ⟨0, _⟩ => ⟨S1024x8192, .bf16⟩
  | .local _ .vmem, ⟨1, _⟩ => ⟨S8192x512, .bf16⟩
  | .local _ .vmem, ⟨2, _⟩ => ⟨S8192x512, .bf16⟩
  | .local _ .vmem, ⟨3, _⟩ => ⟨S1024x512, .bf16⟩
  | .local _ .vmem, ⟨4, _⟩ => ⟨S1024x512, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c6_i32 : BitVec 32 := 6#32
  let v1 : BitVec 1 := Scalar.cmpi .slt arg0 c6_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![c0_i32_1.toNat, v2.toNat]

def cc0_transform_3 (i : grid0.Coords) : Fin 2 → Nat :=
  let arg0 : BitVec 32 := BitVec.ofNat 32 (i 0).val
  let c11_i32 : BitVec 32 := 11#32
  let v0 : BitVec 32 := Scalar.addi arg0 c11_i32
  let c0_i32 : BitVec 32 := 0#32
  let c0_i32_0 : BitVec 32 := 0#32
  ![c0_i32.toNat, v0.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S1024x8192 : Shape := ⟨2, ![1024, 8192]⟩
abbrev S8192x3072 : Shape := ⟨2, ![8192, 3072]⟩
abbrev S1024x8704 : Shape := ⟨2, ![1024, 8704]⟩
abbrev S1024x3072 : Shape := ⟨2, ![1024, 3072]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S1024x8704, .bf16⟩
  | .hbm, ⟨3, _⟩ => ⟨S1024x8192, .f32⟩
  | .hbm, ⟨4, _⟩ => ⟨S8192x3072, .f32⟩
  | .hbm, ⟨5, _⟩ => ⟨S1024x3072, .f32⟩
  | .hbm, ⟨6, _⟩ => ⟨S1024x3072, .bf16⟩
  | .hbm, ⟨7, _⟩ => ⟨S1024x5632, .bf16⟩
  | .hbm, ⟨8, _⟩ => ⟨S1024x8704, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S1024x8192 : Shape := ⟨2, ![1024, 8192]⟩
abbrev S8192x1024 : Shape := ⟨2, ![8192, 1024]⟩
abbrev S8192x512 : Shape := ⟨2, ![8192, 512]⟩
abbrev S1024x8704 : Shape := ⟨2, ![1024, 8704]⟩
abbrev S8192x256 : Shape := ⟨2, ![8192, 256]⟩
abbrev S1024x256 : Shape := ⟨2, ![1024, 256]⟩

abbrev nBuf : Space → Nat
  | .hbm => 6
  | .vmem => 9
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S1024x8704, .bf16⟩
  | .hbm, ⟨5, _⟩ => ⟨S1024x8704, .bf16⟩
  | .local _ .vmem, ⟨0, _⟩ => ⟨S1024x8192, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S8192x256, .bf16⟩
  | .local _ .vmem, ⟨7, _⟩ => ⟨S1024x256, .bf16⟩
  | .local _ .vmem, ⟨8, _⟩ => ⟨S1024x256, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c4_i32 : BitVec 32 := 4#32
  let v1 : BitVec 1 := Scalar.cmpi .slt arg0 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c4_i32_1 : BitVec 32 := 4#32
  let v5 : BitVec 1 := Scalar.cmpi .sge arg0 c4_i32_1
  let c8_i32 : BitVec 32 := 8#32
  let v6 : BitVec 1 := Scalar.cmpi .slt arg0 c8_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c8_i32_3 : BitVec 32 := 8#32
  let v10 : BitVec 1 := Scalar.cmpi .sge arg0 c8_i32_3
  let c10_i32 : BitVec 32 := 10#32
  let v11 : BitVec 1 := Scalar.cmpi .slt arg0 c10_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S1024x8192 : Shape := ⟨2, ![1024, 8192]⟩
abbrev S8192x1024 : Shape := ⟨2, ![8192, 1024]⟩
abbrev S8192x512 : Shape := ⟨2, ![8192, 512]⟩
abbrev S1024x8704 : Shape := ⟨2, ![1024, 8704]⟩
abbrev S8192x2560 : Shape := ⟨2, ![8192, 2560]⟩
abbrev S1024x2560 : Shape := ⟨2, ![1024, 2560]⟩
abbrev S1024x3072 : Shape := ⟨2, ![1024, 3072]⟩

abbrev nBuf : Space → Nat
  | .hbm => 13
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S1024x8704, .bf16⟩
  | .hbm, ⟨5, _⟩ => ⟨S8192x2560, .bf16⟩
  | .hbm, ⟨6, _⟩ => ⟨S8192x2560, .f32⟩
  | .hbm, ⟨7, _⟩ => ⟨S1024x8192, .f32⟩
  | .hbm, ⟨8, _⟩ => ⟨S1024x2560, .f32⟩
  | .hbm, ⟨9, _⟩ => ⟨S1024x2560, .bf16⟩
  | .hbm, ⟨10, _⟩ => ⟨S1024x3072, .bf16⟩
  | .hbm, ⟨11, _⟩ => ⟨S1024x3072, .bf16⟩
  | .hbm, ⟨12, _⟩ => ⟨S1024x8704, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel6.lean ====
abbrev S1024x8192 : Shape := ⟨2, ![1024, 8192]⟩
abbrev S8192x3072 : Shape := ⟨2, ![8192, 3072]⟩
abbrev S1024x8704 : Shape := ⟨2, ![1024, 8704]⟩
abbrev S8192x512 : Shape := ⟨2, ![8192, 512]⟩
abbrev S1024x512 : Shape := ⟨2, ![1024, 512]⟩
abbrev S1024x3072 : Shape := ⟨2, ![1024, 3072]⟩

abbrev nBuf : Space → Nat
  | .hbm => 4
  | .vmem => 5
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S1024x8704, .bf16⟩
  | .hbm, ⟨3, _⟩ => ⟨S1024x3072, .bf16⟩
  | .local _ .vmem, ⟨0, _⟩ => ⟨S1024x8192, .bf16⟩
  | .local _ .vmem, ⟨1, _⟩ => ⟨S8192x512, .bf16⟩
  | .local _ .vmem, ⟨2, _⟩ => ⟨S8192x512, .bf16⟩
  | .local _ .vmem, ⟨3, _⟩ => ⟨S1024x512, .bf16⟩
  | .local _ .vmem, ⟨4, _⟩ => ⟨S1024x512, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c6_i32 : BitVec 32 := 6#32
  let v1 : BitVec 1 := Scalar.cmpi .slt arg0 c6_i32
  let v2 : BitVec 1 := Scalar.andi v0 v1
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S1024x8192 : Shape := ⟨2, ![1024, 8192]⟩
abbrev S8192x3072 : Shape := ⟨2, ![8192, 3072]⟩
abbrev S1024x3072 : Shape := ⟨2, ![1024, 3072]⟩

abbrev nBuf : Space → Nat
  | .hbm => 6
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S1024x8192, .f32⟩
  | .hbm, ⟨3, _⟩ => ⟨S8192x3072, .f32⟩
  | .hbm, ⟨4, _⟩ => ⟨S1024x3072, .f32⟩
  | .hbm, ⟨5, _⟩ => ⟨S1024x3072, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S1 : Shape := ⟨1, ![1]⟩
abbrev S8192x1024 : Shape := ⟨2, ![8192, 1024]⟩
abbrev S4x1024x2176 : Shape := ⟨3, ![4, 1024, 2176]⟩
abbrev S8192x8704 : Shape := ⟨2, ![8192, 8704]⟩
abbrev S1024x1024 : Shape := ⟨2, ![1024, 1024]⟩
abbrev S1x1024x2176 : Shape := ⟨3, ![1, 1024, 2176]⟩
abbrev S1024x2176 : Shape := ⟨2, ![1024, 2176]⟩

abbrev nBuf : Space → Nat
  | .hbm => 4
  | .vmem => 6
  | .smem => 1
  | _ => 0

abbrev bufTy : (tb : Table) → Fin (tcTables nBuf tb) → BufTy
  | .hbm, ⟨0, _⟩ => ⟨S8192x1024, .bf16⟩
  | .hbm, ⟨1, _⟩ => ⟨S4x1024x2176, .bf16⟩
  | .hbm, ⟨2, _⟩ => ⟨S8192x8704, .f32⟩
  | .hbm, ⟨3, _⟩ => ⟨S8192x8704, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2176, .bf16⟩
  | .local _ .vmem, ⟨3, _⟩ => ⟨S1x1024x2176, .bf16⟩
  | .local _ .vmem, ⟨4, _⟩ => ⟨S1024x2176, .f32⟩
  | .local _ .vmem, ⟨5, _⟩ => ⟨S1024x2176, .f32⟩
  | .local _ .smem, ⟨0, _⟩ => ⟨S1, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .sge arg1 v0
  let v2 : BitVec 32 := Scalar.extui v1
  let v3 : BitVec 32 := Scalar.addi arg1 v2
  let c0_i32 : BitVec 32 := 0#32
  let c0_i32_0 : BitVec 32 := 0#32
  let c0_i32_1 : BitVec 32 := 0#32
  ![v3.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 1 := Scalar.cmpi .sge arg1 v0
  let v2 : BitVec 32 := Scalar.extui v1
  let v3 : BitVec 32 := Scalar.addi arg1 v2
  let c0_i32 : BitVec 32 := 0#32
  ![arg0.toNat, v3.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S1 : Shape := ⟨1, ![1]⟩
abbrev S8192x1024 : Shape := ⟨2, ![8192, 1024]⟩
abbrev S4x1024x2176 : Shape := ⟨3, ![4, 1024, 2176]⟩
abbrev S8192x8704 : Shape := ⟨2, ![8192, 8704]⟩
abbrev S1024x4x2176 : Shape := ⟨3, ![1024, 4, 2176]⟩
abbrev S1024x8704 : Shape := ⟨2, ![1024, 8704]⟩
abbrev S_ : Shape := ⟨0, ![]⟩
abbrev S8704 : Shape := ⟨1, ![8704]⟩

abbrev nBuf : Space → Nat
  | .hbm => 28
  | .vmem => 0
  | .smem => 0
  | _ => 0

abbrev bufTy : (tb : Table) → Fin (tcTables nBuf tb) → BufTy
  | .hbm, ⟨0, _⟩ => ⟨S1, .i32⟩
  | .hbm, ⟨1, _⟩ => ⟨S8192x1024, .bf16⟩
  | .hbm, ⟨2, _⟩ => ⟨S4x1024x2176, .bf16⟩
  | .hbm, ⟨3, _⟩ => ⟨S8192x8704, .f32⟩
  | .hbm, ⟨4, _⟩ => ⟨S4x1024x2176, .f32⟩
  | .hbm, ⟨5, _⟩ => ⟨S1024x4x2176, .f32⟩
  | .hbm, ⟨6, _⟩ => ⟨S1024x8704, .f32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S8704, .i32⟩
  | .hbm, ⟨17, _⟩ => ⟨S8704, .i32⟩
  | .hbm, ⟨18, _⟩ => ⟨S8704, .i1⟩
  | .hbm, ⟨19, _⟩ => ⟨S_, .i32⟩
  | .hbm, ⟨20, _⟩ => ⟨S_, .i32⟩
  | .hbm, ⟨21, _⟩ => ⟨S8704, .i32⟩
  | .hbm, ⟨22, _⟩ => ⟨S8704, .i1⟩
  | .hbm, ⟨23, _⟩ => ⟨S8704, .i1⟩
  | .hbm, ⟨24, _⟩ => ⟨S8192x1024, .f32⟩
  | .hbm, ⟨25, _⟩ => ⟨S8192x8704, .f32⟩
  | .hbm, ⟨26, _⟩ => ⟨S8192x8704, .i1⟩
  | .hbm, ⟨27, _⟩ => ⟨S8192x8704, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_v0 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Kernel8.lean ====
abbrev S8192x1024 : Shape := ⟨2, ![8192, 1024]⟩
abbrev S8192x8704 : Shape := ⟨2, ![8192, 8704]⟩
abbrev S1024x1024 : Shape := ⟨2, ![1024, 1024]⟩
abbrev S1x1024 : Shape := ⟨2, ![1, 1024]⟩
abbrev S8192x3072 : Shape := ⟨2, ![8192, 3072]⟩
abbrev S8x1024 : Shape := ⟨2, ![8, 1024]⟩
abbrev S256x1024 : Shape := ⟨2, ![256, 1024]⟩
abbrev S256x512 : Shape := ⟨2, ![256, 512]⟩
abbrev S256x3072 : Shape := ⟨2, ![256, 3072]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 22
  | .vmem => 50
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8704, .f32⟩
  | .hbm, ⟨3, _⟩ => ⟨S8192x1024, .f32⟩
  | .hbm, ⟨4, _⟩ => ⟨S8192x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .bf16⟩
  | .hbm, ⟨14, _⟩ => ⟨S8192x3072, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1x1024, .f32⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .bf16⟩
  | .local _ .vmem, ⟨34, _⟩ => ⟨S256x1024, .bf16⟩
  | .local _ .vmem, ⟨35, _⟩ => ⟨S256x3072, .bf16⟩
  | .local _ .vmem, ⟨36, _⟩ => ⟨S256x3072, .bf16⟩
  | .local _ .vmem, ⟨37, _⟩ => ⟨S256x1024, .bf16⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S256x1024, .bf16⟩
  | .local _ .vmem, ⟨43, _⟩ => ⟨S256x1024, .bf16⟩
  | .local _ .vmem, ⟨44, _⟩ => ⟨S256x1024, .bf16⟩
  | .local _ .vmem, ⟨45, _⟩ => ⟨S256x1024, .bf16⟩
  | .local _ .vmem, ⟨46, _⟩ => ⟨S256x1024, .bf16⟩
  | .local _ .vmem, ⟨47, _⟩ => ⟨S256x1024, .bf16⟩
  | .local _ .vmem, ⟨48, _⟩ => ⟨S256x1024, .bf16⟩
  | .local _ .vmem, ⟨49, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg25_1 : Ref sig .tc := ⟨.vmem, 46, rfl⟩
abbrev cc0_stg26_0 : Ref sig .tc := ⟨.vmem, 47, rfl⟩
abbrev cc0_stg26_1 : Ref sig .tc := ⟨.vmem, 48, rfl⟩
abbrev cc0_stg27_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45
abbrev cc0_sem25_1 : DmaSem sig := 46
abbrev cc0_sem26_0 : DmaSem sig := 47
abbrev cc0_sem26_1 : DmaSem sig := 48
abbrev cc0_sem27_0 : DmaSem sig := 49

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_6 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_7 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_8 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x3072 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 1 → Memref sig .tc .vmem S8x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]
-- ==== Reference8Ideal.lean ====
abbrev S8192x1024 : Shape := ⟨2, ![8192, 1024]⟩
abbrev S8192x8704 : Shape := ⟨2, ![8192, 8704]⟩
abbrev S1024x1024 : Shape := ⟨2, ![1024, 1024]⟩
abbrev S1x1024 : Shape := ⟨2, ![1, 1024]⟩
abbrev S8192x8x128 : Shape := ⟨3, ![8192, 8, 128]⟩
abbrev S8x128 : Shape := ⟨2, ![8, 128]⟩
abbrev S_ : Shape := ⟨0, ![]⟩
abbrev S8192x8 : Shape := ⟨2, ![8192, 8]⟩
abbrev S8192x8x1 : Shape := ⟨3, ![8192, 8, 1]⟩
abbrev S1x8x128 : Shape := ⟨3, ![1, 8, 128]⟩
abbrev S8192 : Shape := ⟨1, ![8192]⟩
abbrev S8192x1 : Shape := ⟨2, ![8192, 1]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S8192x1024, .f32⟩
  | 2 => ⟨S8192x8704, .f32⟩
  | 3 => ⟨S8192x1024, .f32⟩
  | 4 => ⟨S8192x1024, .f32⟩
  | 5 => ⟨S1024x1024, .bf16⟩
  | 6 => ⟨S1024x1024, .bf16⟩
  | 7 => ⟨S1024x1024, .bf16⟩
  | 8 => ⟨S1x1024, .f32⟩
  | 9 => ⟨S1x1024, .f32⟩
  | 10 => ⟨S8192x1024, .f32⟩
  | 11 => ⟨S8192x1024, .f32⟩
  | 12 => ⟨S8192x1024, .f32⟩
  | 13 => ⟨S8192x1024, .f32⟩
  | 14 => ⟨S8192x8x128, .f32⟩
  | 15 => ⟨S8x128, .f32⟩
  | 16 => ⟨S8192x8x128, .f32⟩
  | 17 => ⟨S_, .f32⟩
  | 18 => ⟨S8192x8, .f32⟩
  | 19 => ⟨S8192x8x1, .f32⟩
  | 20 => ⟨S_, .f32⟩
  | 21 => ⟨S8192x8x1, .f32⟩
  | 22 => ⟨S8192x8x1, .f32⟩
  | 23 => ⟨S_, .f32⟩
  | 24 => ⟨S8192x8x1, .f32⟩
  | 25 => ⟨S8192x8x1, .f32⟩
  | 26 => ⟨S8192x8x1, .f32⟩
  | 27 => ⟨S8192x8x128, .f32⟩
  | 28 => ⟨S8192x8x128, .f32⟩
  | 29 => ⟨S1x8x128, .f32⟩
  | 30 => ⟨S8192x8x128, .f32⟩
  | 31 => ⟨S8192x8x128, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x1024, .f32⟩
  | 52 => ⟨S8192x1024, .f32⟩
  | 53 => ⟨S1024x1024, .f32⟩
  | 54 => ⟨S8192x1024, .f32⟩
  | 55 => ⟨S1024x1024, .f32⟩
  | 56 => ⟨S8192x1024, .f32⟩
  | 57 => ⟨S8192x1024, .f32⟩
  | 58 => ⟨S8192x1024, .f32⟩
  | 59 => ⟨S_, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S8192x1024, .f32⟩
  | 76 => ⟨S1024x1024, .f32⟩
  | 77 => ⟨S8192x1024, .f32⟩
  | 78 => ⟨S8192x1024, .f32⟩
  | 79 => ⟨S8192x1024, .f32⟩
  | 80 => ⟨S_, .f32⟩
  | 81 => ⟨S8192, .f32⟩
  | 82 => ⟨S8192x1, .f32⟩
  | 83 => ⟨S_, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S_, .f32⟩
  | 101 => ⟨S8192x1024, .f32⟩
  | 102 => ⟨S8192x1024, .f32⟩
  | 103 => ⟨S_, .f32⟩
  | 104 => ⟨S8192, .f32⟩
  | 105 => ⟨S_, .f32⟩
  | 106 => ⟨S8192, .f32⟩
  | 107 => ⟨S8192, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S8192, .f32⟩
  | 116 => ⟨S_, .f32⟩
  | 117 => ⟨S8192, .f32⟩
  | 118 => ⟨S8192, .f32⟩
  | 119 => ⟨S8192x1024, .f32⟩
  | 120 => ⟨S8192x1024, .f32⟩
  | 121 => ⟨S8192x1024, .f32⟩
  | 122 => ⟨S8192x1024, .f32⟩
  | 123 => ⟨S8192x1024, .f32⟩
  | 124 => ⟨S_, .f32⟩
  | 125 => ⟨S8192, .f32⟩
  | 126 => ⟨S8192x1, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S8192x1024, .f32⟩
  | 16 => ⟨S8192x1024, .f32⟩
  | 17 => ⟨S8192x1024, .bf16⟩
  | 18 => ⟨S8192x1024, .bf16⟩
  | 19 => ⟨S8192x1024, .bf16⟩
  | 20 => ⟨S8192x1024, .bf16⟩
  | 21 => ⟨S8192x1024, .bf16⟩
  | 22 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v20 : Ref sig .tc := ⟨.hbm, 41, rfl⟩
abbrev main_v21 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_2 : Ref sig .tc := ⟨.hbm, 59, rfl⟩
abbrev main_v30 : Ref sig .tc := ⟨.hbm, 60, rfl⟩
abbrev main_v31 : Ref sig .tc := ⟨.hbm, 61, rfl⟩
abbrev main_cst_3 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_4 : Ref sig .tc := ⟨.hbm, 68, rfl⟩
abbrev main_v37 : Ref sig .tc := ⟨.hbm, 69, rfl⟩
abbrev main_v38 : Ref sig .tc := ⟨.hbm, 70, rfl⟩
abbrev main_cst_5 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_6 : Ref sig .tc := ⟨.hbm, 80, rfl⟩
abbrev main_v47 : Ref sig .tc := ⟨.hbm, 81, rfl⟩
abbrev main_v48 : Ref sig .tc := ⟨.hbm, 82, rfl⟩
abbrev main_cst_7 : Ref sig .tc := ⟨.hbm, 83, rfl⟩
abbrev main_v49 : Ref sig .tc := ⟨.hbm, 84, rfl⟩
abbrev main_v50 : Ref sig .tc := ⟨.hbm, 85, rfl⟩
abbrev main_cst_8 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_9 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_10 : Ref sig .tc := ⟨.hbm, 100, rfl⟩
abbrev main_v63 : Ref sig .tc := ⟨.hbm, 101, rfl⟩
abbrev main_v64 : Ref sig .tc := ⟨.hbm, 102, rfl⟩
abbrev main_cst_11 : Ref sig .tc := ⟨.hbm, 103, rfl⟩
abbrev main_v65 : Ref sig .tc := ⟨.hbm, 104, rfl⟩
abbrev main_cst_12 : Ref sig .tc := ⟨.hbm, 105, rfl⟩
abbrev main_v66 : Ref sig .tc := ⟨.hbm, 106, rfl⟩
abbrev main_v67 : Ref sig .tc := ⟨.hbm, 107, rfl⟩
abbrev main_cst_13 : Ref sig .tc := ⟨.hbm, 108, rfl⟩
abbrev main_v68 : Ref sig .tc := ⟨.hbm, 109, rfl⟩
abbrev main_cst_14 : Ref sig .tc := ⟨.hbm, 110, rfl⟩
abbrev main_v69 : Ref sig .tc := ⟨.hbm, 111, rfl⟩
abbrev main_cst_15 : Ref sig .tc := ⟨.hbm, 112, rfl⟩
abbrev main_cst_16 : Ref sig .tc := ⟨.hbm, 113, rfl⟩
abbrev main_v70 : Ref sig .tc := ⟨.hbm, 114, rfl⟩
abbrev main_v71 : Ref sig .tc := ⟨.hbm, 115, rfl⟩
abbrev main_cst_17 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_cst_18 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_19 : Ref sig .tc := ⟨.hbm, 130, rfl⟩
abbrev main_v84 : Ref sig .tc := ⟨.hbm, 131, rfl⟩
abbrev main_v85 : Ref sig .tc := ⟨.hbm, 132, rfl⟩
abbrev main_cst_20 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩

abbrev nD : Nat := 1
abbrev τ : Topo := Topo.v7x

variable {F : FTy → Type} [FloatOps F]
-- ==== Proof.Turn.lean ====
/- The block of columns that the forward product leaves out, from the chip's word: the word brought into 0 to 3. -/
module

public import Idealize.ShloMosaic.Lib.WordCmp
public import Idealize.ShloMosaic.PureOps

@[expose] public section

open Idealize.ShloMosaic Idealize.ShloMosaic.WordCmp

namespace Cert.Turn

/-- The word, read signed and brought into 0 to 3. -/
def skip (v : BitVec 32) : ℕ := min v.toInt.toNat 3

theorem skip_lt (v : BitVec 32) : skip v < 4 := Nat.lt_succ_of_le (Nat.min_le_right _ _)

/-- The block that the call takes at step `j` of three: the `j`th of those that are not left out. -/
theorem next_eq (v : BitVec 32) {j : ℕ} (hj : j < 3) :
    (Scalar.addi (BitVec.ofNat 32 j) (Scalar.extui (Scalar.cmpi .sge (BitVec.ofNat 32 j) v))).toNat
      = if j < skip v then j else j + 1 := by
  unfold Scalar.cmpi
  rw [cmpi_sge_eq, toInt_ofNat_of_lt (show j < 2 ^ 31 from lt_trans hj (by decide))]
  by_cases h : v.toInt ≤ (j : ℤ)
  · rw [if_neg (by unfold skip; omega), decide_eq_true h]
    obtain rfl | rfl | rfl : j = 0 ∨ j = 1 ∨ j = 2 := by omega
    all_goals rfl
  · rw [if_pos (by unfold skip; omega), decide_eq_false h]
    obtain rfl | rfl | rfl : j = 0 ∨ j = 1 ∨ j = 2 := by omega
    all_goals rfl

/-- The reference's word brought into 0 to 3 is that number. -/
theorem clip_eq (v : BitVec 32) : IntOp.minsi 3#32 (IntOp.maxsi 0#32 v) = BitVec.ofNat 32 (skip v) := by
  unfold IntOp.minsi IntOp.maxsi
  have slt (x y : BitVec 32) : x.slt y = decide (x.toInt < y.toInt) := rfl
  simp only [slt, decide_eq_true_eq]
  have h3 : (3#32 : BitVec 32).toInt = 3 := by decide
  have h0 : (0#32 : BitVec 32).toInt = 0 := by decide
  rw [h3, h0]
  by_cases hn : v.toInt < 0
  · rw [if_pos hn, h0, if_neg (by decide), show skip v = 0 by unfold skip; omega]
  · rw [if_neg hn]
    by_cases hl : 3 < v.toInt
    · rw [if_pos hl, show skip v = 3 by unfold skip; omega]
    · rw [if_neg hl]
      refine BitVec.eq_of_toInt_eq ?_
      rw [toInt_ofNat_of_lt (show skip v < 2 ^ 31 from lt_trans (skip_lt v) (by decide))]
      unfold skip
      omega

/-- The reference's test of a column: it lies in the block left out. -/
theorem mask_eq (v : BitVec 32) {c : ℕ} (hc : c < 8704) :
    IntOp.andi (IntOp.cmpi .sle (IntOp.muli 2176#32 (IntOp.minsi 3#32 (IntOp.maxsi 0#32 v))) (BitVec.ofNat 32 c))
      (IntOp.cmpi .slt (BitVec.ofNat 32 c) (IntOp.addi (IntOp.muli 2176#32 (IntOp.minsi 3#32 (IntOp.maxsi 0#32 v))) 2176#32))
      = BitVec.ofBool (decide (c / 2176 = skip v)) := by
  have hs := skip_lt v
  rw [clip_eq, show IntOp.muli 2176#32 (BitVec.ofNat 32 (skip v)) = BitVec.ofNat 32 (2176 * skip v) from (BitVec.ofNat_mul ..).symm,
    show IntOp.addi (BitVec.ofNat 32 (2176 * skip v)) 2176#32 = BitVec.ofNat 32 (2176 * skip v + 2176) from (BitVec.ofNat_add ..).symm,
    cmpi_sle_ofNat (by omega) (by omega), cmpi_slt_ofNat (by omega) (by omega), andi_ofBool]
  congr 1
  rw [← Bool.decide_and]
  exact decide_eq_decide.mpr (by omega)

end Cert.Turn
-- ==== Proof.Sums.lean ====
/- Sums taken block by block. -/
module

public import Idealize.ShloMosaic.Lib.Pipeline.Value
public import Idealize.ShloMosaic.Lib.ValueIdxCore
public import Idealize.ShloMosaic.PureOps.Ideal.Laws

@[expose] public section

open scoped BigOperators
open Idealize.ShloMosaic Idealize.ShloMosaic.ValueIdx

namespace Cert.Sums

/-- A sum of `a` blocks of `b` terms each is the sum of all the terms. -/
theorem range_blocks {M : Type*} [AddCommMonoid M] (f : ℕ → M) (a b : ℕ) :
    ∑ s ∈ Finset.range a, ∑ k ∈ Finset.range b, f (b * s + k) = ∑ k ∈ Finset.range (b * a), f k := by
  induction a with
  | zero => simp
  | succ a ih => rw [Finset.sum_range_succ, ih, Nat.mul_succ, Finset.sum_range_add]

/-- The same with the terms indexed below their number. -/
theorem fin_blocks {M : Type*} [AddCommMonoid M] (a b n : ℕ) (h : b * a = n) (f : Fin n → M) :
    ∑ s : Fin a, ∑ k : Fin b, f ⟨b * s.val + k.val, by
      have := s.isLt; have := k.isLt
      calc b * s.val + k.val < b * s.val + b := by omega
        _ = b * (s.val + 1) := by ring
        _ ≤ b * a := Nat.mul_le_mul_left b s.isLt
        _ = n := h⟩ = ∑ k : Fin n, f k := by
  subst h
  have e := range_blocks (fun k => if h : k < b * a then f ⟨k, h⟩ else 0) a b
  rw [Finset.sum_range, Finset.sum_range] at e
  simp only [Finset.sum_range, Fin.is_lt, dite_true] at e
  rw [← e]
  refine Finset.sum_congr rfl fun s _ => Finset.sum_congr rfl fun k _ => ?_
  rw [dif_pos]

/-- A sequence that starts at its first term and adds a term at each step ends at their sum. -/
theorem running {M : Type*} [AddCommMonoid M] {n : ℕ} (f g : Fin (n + 1) → M) (h0 : f 0 = g 0)
    (hs : ∀ k : Fin n, f k.succ = f k.castSucc + g k.succ) : f (Fin.last n) = ∑ k, g k := by
  induction n with
  | zero => simpa using h0
  | succ n ih =>
    rw [Fin.sum_univ_castSucc, ← ih (fun k => f k.castSucc) (fun k => g k.castSucc) h0 (fun k => hs k.castSucc)]
    exact hs (Fin.last n)

/-- A sum over the one contracted coordinate of a product. -/
theorem contracted {sl sr so : Shape} (D : DotDims sl sr so) (n : ℕ) (hr : D.contr.rank = 1)
    (hs : D.contr.size ⟨0, by omega⟩ = n) {M : Type*} [AddCommMonoid M] (f : D.contr.Idx → M) :
    ∑ k, f k = ∑ k : Fin n, f ((contrEquiv1 D n hr hs).symm k) :=
  (Equiv.sum_comp (contrEquiv1 D n hr hs).symm f).symm

end Cert.Sums
-- ==== Proof.Entry.lean ====
/- An entry of a product of matrices: what the blocks' products and the references' products are, over the extended reals. -/
module

public import proofs.«01_k».proof.Proof.Sums
public import Idealize.ShloMosaic.Lib.Pipeline.Value

@[expose] public section

noncomputable section

open Idealize.ShloMosaic Idealize.ShloMosaic.ValueIdx
open scoped BigOperators

namespace Cert.Entry

/-- The shape of a matrix. -/
abbrev Mat (a b : ℕ) : Shape := ⟨2, ![a, b]⟩

/-- Row `i` of the first matrix times column `j` of the second. -/
def entry {a b n : ℕ} (X : (Mat a b).Idx → EReal) (Y : (Mat b n).Idx → EReal) (i : Fin a) (j : Fin n) : EReal :=
  ∑ k : Fin b, X (ix2 i k) * Y (ix2 k j)

/-- Products of rows that agree and columns that agree are equal. -/
theorem entry_congr {a a' b n n' : ℕ} (X : (Mat a b).Idx → EReal) (X' : (Mat a' b).Idx → EReal) (Y : (Mat b n).Idx → EReal)
    (Y' : (Mat b n').Idx → EReal) (i : Fin a) (i' : Fin a') (j : Fin n) (j' : Fin n')
    (hx : ∀ k : Fin b, X (ix2 i k) = X' (ix2 i' k)) (hy : ∀ k : Fin b, Y (ix2 k j) = Y' (ix2 k j')) :
    entry X Y i j = entry X' Y' i' j' := by
  unfold entry
  exact Finset.sum_congr rfl fun k _ => by rw [hx k, hy k]

variable {a b n : ℕ} {φ : FTy} (D : DotDims (Mat a b) (Mat b n) (Mat a n)) (hr : D.contr.rank = 1)
  (hs : D.contr.size ⟨0, lt_of_lt_of_eq Nat.zero_lt_one hr.symm⟩ = b)
  (hl : ∀ i j k, D.lhsIdx (ix2 i j) ((contrEquiv1 D b hr hs).symm k) = ix2 i k)
  (hc : ∀ i j k, D.rhsIdx (ix2 i j) ((contrEquiv1 D b hr hs).symm k) = ix2 k j)
  (X : FVec Ideal (Mat a b) φ) (Y : FVec Ideal (Mat b n) φ) (i : Fin a) (j : Fin n)

include hl hc

/-- A block's product onto zero, at an index. -/
theorem matmul_entry : matmul D none X Y (constant (Mat a n) .f32 0x00000000#32) (ix2 i j) = entry X Y i j := by
  unfold matmul
  rw [Ideal.matmul_constant_zero_apply, Cert.Sums.contracted D b hr hs]
  unfold entry
  exact Finset.sum_congr rfl fun k _ => by rw [hl, hc]

/-- A whole product, at an index. -/
theorem dot_entry : Host.dotGeneral D none X Y (ix2 i j) = entry X Y i j := by
  simp only [Host.dotGeneral]
  rw [Ideal.dotGeneral_apply, Cert.Sums.contracted D b hr hs]
  unfold entry
  exact Finset.sum_congr rfl fun k _ => by rw [hl, hc]

end Cert.Entry

end
-- ==== Proof.Columns.lean ====
/- One row of the five gradients laid side by side, 8704 columns in all, against one row of the weights kept as four groups of 2176
   columns: the product summed over all columns is the sum of the eight stretches on which neither side changes its array. -/
module

public import Idealize.ShloMosaic.PureOps.Ideal.Laws

@[expose] public section

noncomputable section

open scoped BigOperators

namespace Cert.Columns

/-- The row of the gradients at column `c` of all the columns. -/
def piece (p0 : Fin 3072 → EReal) (p1 p2 : Fin 1024 → EReal) (p3 : Fin 512 → EReal) (p4 : Fin 3072 → EReal) (c : ℕ) : EReal :=
  if h : c < 3072 then p0 ⟨c, h⟩ else if h : c < 4096 then p1 ⟨c - 3072, by omega⟩ else if h : c < 5120 then p2 ⟨c - 4096, by omega⟩
  else if h : c < 5632 then p3 ⟨c - 5120, by omega⟩ else if h : c < 8704 then p4 ⟨c - 5632, by omega⟩ else 0

/-- The row of the weights at column `c` of all the columns. -/
def weight (w : Fin 4 → Fin 2176 → EReal) (c : ℕ) : EReal :=
  if h : c < 8704 then w ⟨c / 2176, by omega⟩ ⟨c % 2176, by omega⟩ else 0

section Piece
variable {p0 : Fin 3072 → EReal} {p1 p2 : Fin 1024 → EReal} {p3 : Fin 512 → EReal} {p4 : Fin 3072 → EReal} {c : ℕ}

theorem piece0 (k : Fin 3072) (h : c = k.val) : piece p0 p1 p2 p3 p4 c = p0 k := by
  subst h; unfold piece; rw [dif_pos k.isLt]
theorem piece1 (k : Fin 1024) (h : c = 3072 + k.val) : piece p0 p1 p2 p3 p4 c = p1 k := by
  subst h; unfold piece; rw [dif_neg (by omega), dif_pos (by omega)]; exact congrArg p1 (Fin.ext (Nat.add_sub_cancel_left ..))
theorem piece2 (k : Fin 1024) (h : c = 4096 + k.val) : piece p0 p1 p2 p3 p4 c = p2 k := by
  subst h; unfold piece; rw [dif_neg (by omega), dif_neg (by omega), dif_pos (by omega)]; exact congrArg p2 (Fin.ext (Nat.add_sub_cancel_left ..))
theorem piece3 (k : Fin 512) (h : c = 5120 + k.val) : piece p0 p1 p2 p3 p4 c = p3 k := by
  subst h; unfold piece; rw [dif_neg (by omega), dif_neg (by omega), dif_neg (by omega), dif_pos (by omega)]; exact congrArg p3 (Fin.ext (Nat.add_sub_cancel_left ..))
theorem piece4 (k : Fin 3072) (h : c = 5632 + k.val) : piece p0 p1 p2 p3 p4 c = p4 k := by
  subst h; unfold piece
  rw [dif_neg (by omega), dif_neg (by omega), dif_neg (by omega), dif_neg (by omega), dif_pos (by omega)]; exact congrArg p4 (Fin.ext (Nat.add_sub_cancel_left ..))
end Piece

theorem weight_at {w : Fin 4 → Fin 2176 → EReal} {c : ℕ} (g : Fin 4) (k : Fin 2176) (h : c = 2176 * g.val + k.val) :
    weight w c = w g k := by
  subst h; unfold weight
  rw [dif_pos (by omega)]
  congr 1
  · exact Fin.ext (by show (2176 * g.val + k.val) / 2176 = g.val; omega)
  · exact Fin.ext (by show (2176 * g.val + k.val) % 2176 = k.val; omega)

/-- A stretch of `n` columns from column `s` on. -/
theorem stretch {n : ℕ} (s : ℕ) (f : ℕ → EReal) (g : Fin n → EReal) (h : ∀ c : Fin n, g c = f (s + c.val)) :
    ∑ c, g c = ∑ c ∈ Finset.range n, f (s + c) := by
  rw [Finset.sum_range]
  exact Finset.sum_congr rfl fun c _ => h c

/-- The sum over all the columns, stretch by stretch. -/
theorem total (f : ℕ → EReal) : ∑ c : Fin 8704, f c.val
    = ((((((∑ c ∈ Finset.range 2176, f (0 + c) + ∑ c ∈ Finset.range 896, f (2176 + c)) + ∑ c ∈ Finset.range 1024, f (3072 + c))
      + ∑ c ∈ Finset.range 256, f (4096 + c)) + ∑ c ∈ Finset.range 768, f (4352 + c)) + ∑ c ∈ Finset.range 512, f (5120 + c))
      + ∑ c ∈ Finset.range 896, f (5632 + c)) + ∑ c ∈ Finset.range 2176, f (6528 + c) := by
  rw [← Finset.sum_range f, show (8704 : ℕ) = 6528 + 2176 from rfl, Finset.sum_range_add, show (6528 : ℕ) = 5632 + 896 from rfl,
    Finset.sum_range_add, show (5632 : ℕ) = 5120 + 512 from rfl, Finset.sum_range_add, show (5120 : ℕ) = 4352 + 768 from rfl,
    Finset.sum_range_add, show (4352 : ℕ) = 4096 + 256 from rfl, Finset.sum_range_add, show (4096 : ℕ) = 3072 + 1024 from rfl,
    Finset.sum_range_add, show (3072 : ℕ) = 2176 + 896 from rfl, Finset.sum_range_add]
  simp only [zero_add]

end Cert.Columns

end
-- ==== Proof.Forward.lean ====
/- What the input projection's forward call leaves: on the columns of the other chips the product of the normalised activations and the
   weights, on the chip's own columns what was there. -/
module

public import proofs.«01_k».proof.Proof.Turn
public import proofs.«01_k».proof.Proof.Entry
public import proofs.«01_k».proof.Proof.Columns
public import proofs.«01_k».proof.Proof.Gen.Kernel7Ideal.Frame
public import Idealize.ShloMosaic.Lib.Pipeline.Value
public import Idealize.ShloMosaic.Lib.Affine
public import Idealize.ShloMosaic.Lib.Tactic

@[expose] public section

noncomputable section

open Idealize.ShloMosaic Idealize.ShloMosaic.TcCoe Idealize.SL.Sem Idealize.ShloMosaic.ValueIdx
open Idealize.ShloMosaic.Pipeline (Dat)
open Idealize.ShloMosaic.WordCmp (toNat_ofNat_of_lt)
open scoped BigOperators

namespace Cert.Kernel7Ideal.Forward

open Cert.Kernel7Ideal Cert.Kernel7Ideal.Gen

theorem zeros : (![0, 0] : Fin 2 → Nat) = fun _ => 0 := funext fun a => by fin_cases a <;> rfl
theorem zeros3 : (![0, 0, 0] : Fin 3 → Nat) = fun _ => 0 := funext fun a => by fin_cases a <;> rfl

/-! ## Where the blocks are -/

section AnyFloat

variable {F : FTy → Type} [FloatOps F]

/-- The block of columns that is left out, from the table. -/
def left (pf : pre0.Contents (Elt F)) : ℕ := Cert.Turn.skip ((pf 0 : Vec F S1 .i32) (ix1 0))

theorem only (i : S1.Idx) : i = ix1 0 := (eq_ix1 i).trans (congrArg ix1 (Subsingleton.elim (α := Fin 1) _ _))

/-- The block of columns taken at the grid's second coordinate `j`. -/
def taken (pf : pre0.Contents (Elt F)) (j : ℕ) : ℕ := if j < left pf then j else j + 1

/-- The block index that both maps compute from the table. -/
theorem turn (pf : pre0.Contents (Elt F)) (i : grid0.Coords) : (Scalar.addi (BitVec.ofNat 32 (i 1).val) (Scalar.extui (Scalar.cmpi .sge
    (BitVec.ofNat 32 (i 1).val) (pf.at 0 (Rect.unit (s := S1) ![0] S1.size inb_S1_S1_0) numel1_S1)))).toNat = taken pf (i 1).val :=
  (congrArg (fun v : BitVec 32 => (Scalar.addi (BitVec.ofNat 32 (i 1).val) (Scalar.extui (Scalar.cmpi .sge
    (BitVec.ofNat 32 (i 1).val) v))).toNat) (congrArg (pf 0) (only _))).trans (Cert.Turn.next_eq _ (i 1).isLt)

theorem index1 (pf : pre0.Contents (Elt F)) (i : grid0.Coords) :
    cc0_transform_1 inb_S1_S1_0 numel1_S1 pf i = ![taken pf (i 1).val, 0, 0] := funext fun a => by
  match a with
  | 0 => exact turn pf i
  | 1 => rfl
  | 2 => rfl

theorem index2 (pf : pre0.Contents (Elt F)) (i : grid0.Coords) :
    cc0_transform_3 inb_S1_S1_0 numel1_S1 pf i = ![(i 0).val, taken pf (i 1).val] := funext fun a => by
  match a with
  | 0 => exact toNat_ofNat_of_lt (show (i 0).val < 2 ^ 32 from lt_trans (i 0).isLt (by decide))
  | 1 => exact turn pf i

theorem taken_lt (pf : pre0.Contents (Elt F)) {j : ℕ} (h : j < 3) : taken pf j < 4 := by unfold taken; split <;> omega

/-- Whatever the chip's word, every block lies in its array. -/
theorem ok (m : (ℓ : Loc nD τ sig) → Buf (Elt F) ℓ) : Ok m := by
  refine ⟨fun i => ⟨fun a => ?_, .inr (Affine.block_words_dvd (of_decide_eq_true rfl) (by decide))⟩,
    fun i => ⟨fun a => ?_, .inl rfl⟩⟩
  · have h := taken_lt (tbl m) (i 1).isLt
    rw [index1]
    match a with
    | 0 => show (taken (tbl m) (i 1).val + 1) * 1 ≤ 4; omega
    | 1 => show (0 + 1) * 1024 ≤ 1024; omega
    | 2 => show (0 + 1) * 2176 ≤ 2176; omega
  · have h := taken_lt (tbl m) (i 1).isLt
    have h0 : (i 0).val < 8 := (i 0).isLt
    rw [index2]
    match a with
    | 0 => show ((i 0).val + 1) * 1024 ≤ 8192; omega
    | 1 => show (taken (tbl m) (i 1).val + 1) * 2176 ≤ 8704; omega

theorem index0 (i : grid0.Coords) : cc0_transform_0 i = ![(i 0).val, 0] := funext fun a => by
  match a with
  | 0 => exact toNat_ofNat_of_lt (show (i 0).val < 2 ^ 32 from lt_trans (i 0).isLt (by decide))
  | 1 => rfl

/-- A point's two coordinates. -/
theorem coords : ∀ t : Fin grid0.N, (grid0.coords t 0).val = t.val / 3 ∧ (grid0.coords t 1).val = t.val % 3 := by decide +kernel

variable (m : (ℓ : Loc nD τ sig) → Buf (Elt F) ℓ) (c : Dev nD) (t : Fin (cfgM m (ok m)).N)

theorem start0 : ((cfgM m (ok m)).win 0).index t = ![t.val / 3, 0] :=
  (index0 (grid0.coords t)).trans (congrArg (fun a : ℕ => ![a, 0]) (coords t).1)
theorem start1 : ((cfgM m (ok m)).win 1).index t = ![taken (tbl m) (t.val % 3), 0, 0] :=
  (index1 (tbl m) (grid0.coords t)).trans (congrArg (fun a : ℕ => ![taken (tbl m) a, 0, 0]) (coords t).2)
theorem start2 : ((cfgM m (ok m)).win 2).index t = ![t.val / 3, taken (tbl m) (t.val % 3)] :=
  (index2 (tbl m) (grid0.coords t)).trans (congrArg₂ (fun a b : ℕ => ![a, taken (tbl m) b]) (coords t).1 (coords t).2)

/-- Neighbouring points write to different blocks, so every point's block is written back. -/
theorem flushes : ((cfgM m (ok m)).win 2).flush t = true := by
  have hN : t.val < 24 := lt_of_lt_of_eq t.isLt N_0
  show (true && (decide (t.val + 1 = grid0.N) || decide (∃ h : t.val + 1 < grid0.N,
    ((cfgM m (ok m)).win 2).index ⟨t.val + 1, h⟩ ≠ ((cfgM m (ok m)).win 2).index t))) = true
  rw [Bool.true_and, Bool.or_eq_true, decide_eq_true_eq, decide_eq_true_eq]
  refine (em (t.val + 1 = grid0.N)).imp id fun h => ⟨by rw [N_0] at h ⊢; omega, fun e => ?_⟩
  rw [start2, start2] at e
  have e0 : (t.val + 1) / 3 = t.val / 3 := congrFun e 0
  have e1 : taken (tbl m) ((t.val + 1) % 3) = taken (tbl m) (t.val % 3) := congrFun e 1
  unfold taken at e1
  split at e1 <;> split at e1 <;> omega

/-- What a point writes back is the product of its two blocks. -/
theorem left_at : (dats m (ok m) 0 c).flushed 2 t
    = ((cfgM m (ok m)).win 2).cut (grid0.coords t) (k0_pay1 (iblk m (ok m) c 0 t) (iblk m (ok m) c 1 t)) := by
  show ((cfgM m (ok m)).win 2).cut (grid0.coords t) ((dats m (ok m) 0 c).after 2 t) = _
  rw [after0_2]
  refine congrArg _ ?_
  unfold outsAt0 out0_A_2
  rw [View.read_writes_eq_canon]; swap; exact fun y => cover0_A_2 ..
  unfold kernelRun0_A
  dsimp only
  rw [View.canon_unit_zero (S := S1024x2176) zeros]
  simp only [View.readAt_eq_ld, View.ld_unit_zero (S := S1024x1024) zeros, View.ld_unit_zero (S := S1x1024x2176) zeros3]
  exact congrArg₂ k0_pay1 ((hs0_0 m (ok m) t).read_unread _) ((hs0_1 m (ok m) t).read_unread _)

/-- The result's buffer starts as the columns handed in. -/
theorem before : V m c main_v0 = m ((c : Thread nD τ).loc main_arg3) := by
  show StableHlo.after hostOps0 _ _ = _
  after_results
  rfl

end AnyFloat

/-- A block's product at an index. -/
theorem block_entry (X : Vec Ideal S1024x1024 .bf16) (Y : Vec Ideal S1x1024x2176 .bf16) (i : Fin 1024) (j : Fin 2176) :
    k0_pay1 X Y (ix2 i j) = Cert.Entry.entry X (fun y : (Cert.Entry.Mat 1024 2176).Idx => Y (ix3 0 (y 0) (y 1))) i j := by
  unfold k0_pay1
  refine (Cert.Entry.matmul_entry (φ := .bf16) dot_S1024x1024_S1024x2176_S1024x2176_1_0_0_1_n_n rfl rfl
    (fun _ _ _ => Shape.idx_ext₂ rfl rfl) (fun _ _ _ => Shape.idx_ext₂ rfl rfl) X _ i j).trans ?_
  refine Cert.Entry.entry_congr _ _ _ _ i i j j (fun _ => rfl) fun k => ?_
  refine (shapeCast_dropUnit_apply ![1024, 2176] Y shapeCasts_S1x1024x2176_S1024x2176 (ix2 k j)).trans (congrArg Y (funext fun a => ?_))
  match a with
  | 0 => rfl
  | 1 => rfl
  | 2 => rfl

variable (m : (ℓ : Loc nD τ sig) → Buf (Elt Ideal) ℓ) (c : Dev nD)

/-- The arguments. -/
abbrev chip : Vec Ideal S1 .i32 := m ((c : Thread nD τ).loc main_arg0)
abbrev rowsIn : Vec Ideal S8192x1024 .bf16 := m ((c : Thread nD τ).loc main_arg1)
abbrev groupsIn : Vec Ideal S4x1024x2176 .bf16 := m ((c : Thread nD τ).loc main_arg2)
abbrev carried : Vec Ideal S8192x8704 .f32 := m ((c : Thread nD τ).loc main_arg3)

/-- The weights' groups side by side. -/
def weights : (Cert.Entry.Mat 1024 8704).Idx → EReal := fun y => Cert.Columns.weight (fun g j => groupsIn m c (ix3 g (y 0) j)) (y 1)

/-- The chip's own columns carried, the other chips' columns multiplied out. -/
def result : Vec Ideal S8192x8704 .f32 := fun y =>
  if (y 1 : ℕ) / 2176 = Cert.Turn.skip (chip m c (ix1 0)) then carried m c y else Cert.Entry.entry (rowsIn m c) (weights m c) (y 0) (y 1)

theorem left_eq : left (tbl m) = Cert.Turn.skip (chip m c (ix1 0)) := by
  obtain rfl : c = 0 := Subsingleton.elim _ _
  exact congrArg (fun v : Vec Ideal S1 .i32 => Cert.Turn.skip (v (ix1 0))) (V_main_arg0 m 0)

section Blocks

variable (t : Fin (cfgM m (ok m)).N)

theorem lt24 : t.val < 24 := lt_of_lt_of_eq t.isLt N_0

/-- The first block is the point's 1024 rows of the activations. -/
theorem blk0 (i k : Fin 1024) (r : Fin 8192) (hr : r.val = 1024 * (t.val / 3) + i.val) :
    (iblk m (ok m) c 0 t : Vec Ideal S1024x1024 .bf16) (ix2 i k) = rowsIn m c (ix2 r k) := by
  unfold iblk
  have h0 : ((cfgM m (ok m)).win 0).index t (0 : Fin 2) = t.val / 3 := congrFun (start0 m t) (0 : Fin 2)
  have h1 : ((cfgM m (ok m)).win 0).index t (1 : Fin 2) = 0 := congrFun (start0 m t) (1 : Fin 2)
  refine (congrArg (V m c main_arg1) (funext fun a : Fin 2 => Fin.ext ?_)).trans (congrFun (V_main_arg1 m c) (ix2 r k))
  match a with
  | 0 => show ((cfgM m (ok m)).win 0).index t (0 : Fin 2) * 1024 + 1 * i.val = r.val; omega
  | 1 => show ((cfgM m (ok m)).win 0).index t (1 : Fin 2) * 1024 + 1 * k.val = k.val; omega

/-- The second is the group of the weights whose turn it is. -/
theorem blk1 (k : Fin 1024) (j : Fin 2176) (q : Fin 4) (hq : q.val = taken (tbl m) (t.val % 3)) :
    (iblk m (ok m) c 1 t : Vec Ideal S1x1024x2176 .bf16) (ix3 0 k j) = groupsIn m c (ix3 q k j) := by
  unfold iblk
  have h0 : ((cfgM m (ok m)).win 1).index t (0 : Fin 3) = taken (tbl m) (t.val % 3) := congrFun (start1 m t) (0 : Fin 3)
  have h1 : ((cfgM m (ok m)).win 1).index t (1 : Fin 3) = 0 := congrFun (start1 m t) (1 : Fin 3)
  have h2 : ((cfgM m (ok m)).win 1).index t (2 : Fin 3) = 0 := congrFun (start1 m t) (2 : Fin 3)
  refine (congrArg (V m c main_arg2) (funext fun a : Fin 3 => Fin.ext ?_)).trans (congrFun (V_main_arg2 m c) (ix3 q k j))
  match a with
  | 0 => show ((cfgM m (ok m)).win 1).index t (0 : Fin 3) * 1 + 1 * 0 = q.val; omega
  | 1 => show ((cfgM m (ok m)).win 1).index t (1 : Fin 3) * 1024 + 1 * k.val = k.val; omega
  | 2 => show ((cfgM m (ok m)).win 1).index t (2 : Fin 3) * 2176 + 1 * j.val = j.val; omega

/-- Where an entry of the point's block lies in the result. -/
theorem place (i : Fin 1024) (j : Fin 2176) (r : Fin 8192) (q : Fin 8704) (hr : r.val = 1024 * (t.val / 3) + i.val)
    (hq : q.val = 2176 * taken (tbl m) (t.val % 3) + j.val) :
    (((cfgM m (ok m)).win 2).blk t).view.emb (ix2 i j : S1024x2176.Idx) = (ix2 r q : S8192x8704.Idx) := by
  have h0 : ((cfgM m (ok m)).win 2).index t (0 : Fin 2) = t.val / 3 := congrFun (start2 m t) (0 : Fin 2)
  have h1 : ((cfgM m (ok m)).win 2).index t (1 : Fin 2) = taken (tbl m) (t.val % 3) := congrFun (start2 m t) (1 : Fin 2)
  refine funext fun a : Fin 2 => Fin.ext ?_
  match a with
  | 0 => show ((cfgM m (ok m)).win 2).index t (0 : Fin 2) * 1024 + 1 * i.val = r.val; omega
  | 1 => show ((cfgM m (ok m)).win 2).index t (1 : Fin 2) * 2176 + 1 * j.val = q.val; omega

/-- What a point writes back is its block of the result. -/
theorem block_eq : (dats m (ok m) 0 c).flushed 2 t = (((cfgM m (ok m)).win 2).blk t).view.read (Elt Ideal) (result m c) := by
  have ht := lt24 m t
  have hlt : taken (tbl m) (t.val % 3) < 4 := taken_lt _ (Nat.mod_lt _ (by decide))
  rw [left_at]
  funext y
  obtain ⟨i, j, rfl⟩ : ∃ (i : Fin 1024) (j : Fin 2176), y = (ix2 i j : S1024x2176.Idx) := ⟨_, _, eq_ix2 _⟩
  have hi := i.isLt
  have hj := j.isLt
  refine Eq.trans ?_ (congrArg (result m c) (place m t i j ⟨1024 * (t.val / 3) + i.val, by omega⟩
    ⟨2176 * taken (tbl m) (t.val % 3) + j.val, by omega⟩ rfl rfl)).symm
  refine (block_entry _ _ i j).trans ?_
  unfold result
  have hne : (2176 * taken (tbl m) (t.val % 3) + j.val) / 2176 ≠ Cert.Turn.skip (chip m c (ix1 0)) := by
    rw [← left_eq]
    unfold taken
    split <;> omega
  refine Eq.trans ?_ (if_neg hne).symm
  refine Cert.Entry.entry_congr _ _ _ _ i _ j _ (fun k => blk0 m c t i k _ rfl) fun k => (blk1 m c t k j ⟨_, hlt⟩ rfl).trans ?_
  exact (Cert.Columns.weight_at (w := fun g j => groupsIn m c (ix3 g k j)) ⟨_, hlt⟩ j rfl).symm

end Blocks

/-- Every column block but the chip's own has its turn. -/
theorem takes {l q : ℕ} (hl : l < 4) (hq : q < 4) (h : q ≠ l) : ∃ j < 3, (if j < l then j else j + 1) = q := by
  by_cases hql : q < l
  · exact ⟨q, by omega, if_pos hql⟩
  · exact ⟨q - 1, by omega, by rw [if_neg (by omega)]; omega⟩

/-- Some point writes an entry outside the chip's own columns. -/
theorem covered (r : Fin 8192) (q : Fin 8704) (h : q.val / 2176 ≠ left (tbl m)) :
    ∃ t : Fin (cfgM m (ok m)).N, (ix2 r q : S8192x8704.Idx) ∈ (((cfgM m (ok m)).win 2).blk t).view.set := by
  have hr := r.isLt
  have hq := q.isLt
  obtain ⟨j, hj, e⟩ := takes (Cert.Turn.skip_lt _) (show q.val / 2176 < 4 by omega) h
  obtain ⟨t, ht⟩ : ∃ t : Fin (cfgM m (ok m)).N, t.val = 3 * (r.val / 1024) + j :=
    ⟨⟨3 * (r.val / 1024) + j, lt_of_lt_of_eq (show _ < 24 by omega) N_0.symm⟩, rfl⟩
  have e' : taken (tbl m) (t.val % 3) = q.val / 2176 := by rw [show t.val % 3 = j by omega]; exact e
  have p := place m t ⟨r.val % 1024, by omega⟩ ⟨q.val % 2176, by omega⟩ r q
    (by show r.val = 1024 * (t.val / 3) + r.val % 1024; omega)
    (by rw [e']; show q.val = 2176 * (q.val / 2176) + q.val % 2176; omega)
  exact ⟨t, p ▸ View.emb_mem_set _ _⟩

/-- The call leaves the result. -/
theorem whole : (dats m (ok m) 0 c).arrAt 2 (cfgM m (ok m)).N = result m c := by
  refine funext fun y : S8192x8704.Idx => ?_
  refine ((dats m (ok m) 0 c).arrAt_eq_piecewise 2 (result m c) (fun t _ => block_eq m c t) y).trans ?_
  by_cases h : ∃ t, ((cfgM m (ok m)).win 2).flush t = true ∧ y ∈ (((cfgM m (ok m)).win 2).blk t).view.set
  · exact if_pos h
  refine (if_neg h).trans ((congrFun ((A_eq m (ok m) c 2).trans (before m c)) y).trans (if_pos ?_).symm)
  by_contra hq
  rw [← left_eq] at hq
  obtain ⟨t, ht⟩ := covered m (y 0) (y 1) hq
  exact h ⟨t, flushes m t, (eq_ix2 y) ▸ ht⟩

/-- The run with its result; the arguments are as they were. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 2).trans (whole m c), h.2 c⟩) (θ_run_and (run_main m ρ (ok m)) (unchanged m ρ (ok m)))

end Cert.Kernel7Ideal.Forward

end
-- ==== Proof.TailRun.lean ====
/- One run of the tail's body, at the first point, which starts the sums, and at a later one, which adds to them. -/
module

public import proofs.«01_k».proof.Proof.Gen.Kernel8Ideal.Frame.Runs

@[expose] public section

set_option maxRecDepth 16384

noncomputable section

namespace Cert.Kernel8Ideal.Whole

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body at the first point: what it stores in each output's buffer, and that it runs, the inputs' buffers as they were. -/
noncomputable def runFirst (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .bf16) (harg20 : arg20.IsWhole) (arg21 : Memref sig .tc .vmem S256x3072 .bf16) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S256x1024 .bf16) (harg27 : arg27.IsWhole) (arg28 : Memref sig .tc .vmem S8x1024 .f32) (harg28 : arg28.IsWhole) (hc0 : cond0_0 i)
    (x0 : Vec F S256x1024 .f32) (x1 : Vec F S256x1024 .f32) (x2 : Vec F S256x1024 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x1024 .f32) (x10 : Vec F S256x1024 .f32) (x11 : Vec F S1024x1024 .bf16) (x12 : Vec F S1024x1024 .bf16) (x13 : Vec F S1024x1024 .bf16) (x14 : Vec F S1x1024 .f32) (x15 : Vec F S1x1024 .f32) :
    Σ' (L16 : List (View.Piece (Elt F) S256x1024 .f32)), Σ' (L17 : List (View.Piece (Elt F) S256x1024 .f32)), Σ' (L18 : List (View.Piece (Elt F) S256x1024 .f32)), Σ' (L19 : List (View.Piece (Elt F) S256x1024 .bf16)), Σ' (L20 : List (View.Piece (Elt F) S256x3072 .bf16)), Σ' (L21 : List (View.Piece (Elt F) S256x1024 .bf16)), Σ' (L22 : List (View.Piece (Elt F) S256x1024 .bf16)), Σ' (L23 : List (View.Piece (Elt F) S256x1024 .bf16)), Σ' (L24 : List (View.Piece (Elt F) S256x1024 .bf16)), Σ' (L25 : List (View.Piece (Elt F) S256x1024 .bf16)), Σ' (L26 : List (View.Piece (Elt F) S256x1024 .bf16)), { L27 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27)) -∗ K ⟨⟩))
          ⊢ wp frame (wpE (defs₀ (F := F)) Variants.none c none) E (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, ?_, fun E K => ?run⟩
  case run =>
    simp only [cc0_tail_eq_skeleton]; unfold cc0_tail_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact H27

set_option maxHeartbeats 20000000 in
/-- The body at a later point, where the sums' buffer holds `xo27`. -/
noncomputable def runLater (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S1024x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .bf16) (harg20 : arg20.IsWhole) (arg21 : Memref sig .tc .vmem S256x3072 .bf16) (harg21 : arg21.IsWhole) (arg22 : Memref sig .tc .vmem S256x1024 .bf16) (harg22 : arg22.IsWhole) (arg23 : Memref sig .tc .vmem S256x1024 .bf16) (harg23 : arg23.IsWhole) (arg24 : Memref sig .tc .vmem S256x1024 .bf16) (harg24 : arg24.IsWhole) (arg25 : Memref sig .tc .vmem S256x1024 .bf16) (harg25 : arg25.IsWhole) (arg26 : Memref sig .tc .vmem S256x1024 .bf16) (harg26 : arg26.IsWhole) (arg27 : Memref sig .tc .vmem S256x1024 .bf16) (harg27 : arg27.IsWhole) (arg28 : Memref sig .tc .vmem S8x1024 .f32) (harg28 : arg28.IsWhole) (hc0 : ¬cond0_0 i)
    (x0 : Vec F S256x1024 .f32) (x1 : Vec F S256x1024 .f32) (x2 : Vec F S256x1024 .f32) (x3 : Vec F S256x512 .f32) (x4 : Vec F S256x512 .f32) (x5 : Vec F S256x512 .f32) (x6 : Vec F S256x512 .f32) (x7 : Vec F S256x512 .f32) (x8 : Vec F S256x512 .f32) (x9 : Vec F S256x1024 .f32) (x10 : Vec F S256x1024 .f32) (x11 : Vec F S1024x1024 .bf16) (x12 : Vec F S1024x1024 .bf16) (x13 : Vec F S1024x1024 .bf16) (x14 : Vec F S1x1024 .f32) (x15 : Vec F S1x1024 .f32) (xo27 : Vec F S8x1024 .f32) :
    Σ' (L16 : List (View.Piece (Elt F) S256x1024 .f32)), Σ' (L17 : List (View.Piece (Elt F) S256x1024 .f32)), Σ' (L18 : List (View.Piece (Elt F) S256x1024 .f32)), Σ' (L19 : List (View.Piece (Elt F) S256x1024 .bf16)), Σ' (L20 : List (View.Piece (Elt F) S256x3072 .bf16)), Σ' (L21 : List (View.Piece (Elt F) S256x1024 .bf16)), Σ' (L22 : List (View.Piece (Elt F) S256x1024 .bf16)), Σ' (L23 : List (View.Piece (Elt F) S256x1024 .bf16)), Σ' (L24 : List (View.Piece (Elt F) S256x1024 .bf16)), Σ' (L25 : List (View.Piece (Elt F) S256x1024 .bf16)), Σ' (L26 : List (View.Piece (Elt F) S256x1024 .bf16)), { L27 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare xo27
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27)) -∗ K ⟨⟩))
          ⊢ wp frame (wpE (defs₀ (F := F)) Variants.none c none) E (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, ?_, fun E K => ?run⟩
  case run =>
    simp only [cc0_tail_eq_skeleton]; unfold cc0_tail_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%f27, %hf27, H27⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg28.eq_unread hf27
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact H27

end Cert.Kernel8Ideal.Whole

end
-- ==== Proof.Row.lean ====
/- One row of the normalisation's gradient, over the extended reals: the form the kernel computes and the form the reference's
   derivative computes are equal. No value is excluded: an infinite row has a zero scale, and a finite one a positive real scale. -/
module

public import Idealize.ShloMosaic.PureOps.Ideal.Laws

@[expose] public section

noncomputable section

open Idealize.ShloMosaic
open scoped BigOperators

namespace Cert.Row

/-- The number of columns. -/
theorem cols : Ideal.ofBits .f32 0x44800000#32 = ((1024 : ℝ) : EReal) := by
  simp [Ideal.ofBits, Ideal.ieee, -EReal.coe_mul]; norm_num

/-- Minus one half. -/
theorem negHalf : Ideal.ofBits .f32 0xBF000000#32 = ((-(1 / 2) : ℝ) : EReal) := by
  simp [Ideal.ofBits, Ideal.ieee, -EReal.coe_mul]; norm_num

/-- The constant under the root is a positive real. -/
theorem eps_pos : ∃ e : ℝ, 0 < e ∧ Ideal.ofBits .f32 0x358637BD#32 = (e : EReal) :=
  ⟨8796093 / 2 ^ 43, by norm_num, by simp [Ideal.ofBits, Ideal.ieee, -EReal.coe_mul]; norm_num⟩

/-- A nonnegative real factor goes into a sum. -/
theorem sum_mul_coe {ι : Type} (s : Finset ι) (f : ι → EReal) {a : ℝ} (h : 0 ≤ a) :
    (∑ j ∈ s, f j) * (a : EReal) = ∑ j ∈ s, f j * (a : EReal) := by
  classical
  induction s using Finset.induction with
  | empty => simp
  | insert i s hi ih =>
    rw [Finset.sum_insert hi, Finset.sum_insert hi, ← ih]
    exact EReal.right_distrib_of_nonneg_of_ne_top (EReal.coe_nonneg.mpr h) (EReal.coe_ne_top _) _ _

theorem add_self (z : EReal) : z + z = z * ((2 : ℝ) : EReal) := by
  induction z using EReal.rec with
  | bot => rw [EReal.bot_mul_coe_of_pos (by norm_num)]; rfl
  | top => rw [EReal.top_mul_coe_of_pos (by norm_num)]; rfl
  | coe r => rw [← EReal.coe_mul, ← EReal.coe_add]; congr 1; ring

/-- What stands under the root: the mean of the squares plus the constant. -/
def var (x : Fin 1024 → EReal) : EReal :=
  Ideal.div (∑ k, x k * x k) (Ideal.ofBits .f32 0x44800000#32) + Ideal.ofBits .f32 0x358637BD#32

/-- The row's scale. -/
def scale (x : Fin 1024 → EReal) : EReal := Ideal.rsqrt (var x)

/-- It is infinite or a positive real. -/
theorem var_cases (x : Fin 1024 → EReal) : var x = ⊤ ∨ ∃ q : ℝ, 0 < q ∧ var x = (q : EReal) := by
  obtain ⟨e, he, hb⟩ := eps_pos
  have h : (e : EReal) ≤ var x := by
    unfold var
    rw [hb, cols, Ideal.div_coe (by norm_num)]
    refine le_add_of_nonneg_left (mul_nonneg (Finset.sum_nonneg fun k _ => ?_) (EReal.coe_nonneg.mpr (by norm_num)))
    rcases le_total 0 (x k) with h | h
    · exact mul_nonneg h h
    · exact EReal.mul_nonneg_iff.mpr (Or.inr ⟨h, h⟩)
  generalize var x = v at h ⊢
  induction v using EReal.rec with
  | bot => exact absurd h (by simp)
  | top => exact .inl rfl
  | coe q => exact .inr ⟨q, lt_of_lt_of_le he (EReal.coe_le_coe_iff.mp h), rfl⟩

/-- The row's correction in the reference: the derivative of the scale, spread over the columns. -/
def corr (x d : Fin 1024 → EReal) : EReal :=
  Ideal.div ((∑ j, x j * d j) * (Ideal.ofBits .f32 0xBF000000#32 * Ideal.div (scale x) (var x))) (Ideal.ofBits .f32 0x44800000#32)

theorem row (x d : Fin 1024 → EReal) (k : Fin 1024) :
    scale x * (d k - x k * scale x * Ideal.div (∑ j, d j * (x j * scale x)) (Ideal.ofBits .f32 0x44800000#32))
      = (d k * scale x + x k * corr x d) + corr x d * x k := by
  unfold corr scale
  rcases var_cases x with h | ⟨q, hq, h⟩ <;> rw [h, cols, negHalf]
  · simp [Ideal.div_coe, Ideal.div]
  · have ha : 0 ≤ (Real.sqrt q)⁻¹ := by positivity
    rw [Ideal.rsqrt_coe, if_neg (not_lt.mpr hq.le), if_neg hq.ne', Ideal.div_coe hq.ne', Ideal.div_coe (by norm_num),
      Ideal.div_coe (by norm_num)]
    have hs : (Real.sqrt q)⁻¹ * (Real.sqrt q)⁻¹ = 1 / q := by
      rw [← mul_inv, Real.mul_self_sqrt hq.le, one_div]
    generalize (Real.sqrt q)⁻¹ = a at ha hs ⊢
    rw [show (∑ j, d j * (x j * (a : EReal))) = (∑ j, x j * d j) * (a : EReal) from by
      rw [sum_mul_coe _ _ ha]; exact Finset.sum_congr rfl fun j _ => by rw [← mul_assoc, mul_comm (d j)]]
    generalize ∑ j, x j * d j = T
    rw [sub_eq_add_neg, EReal.left_distrib_of_nonneg_of_ne_top (EReal.coe_nonneg.mpr ha) (EReal.coe_ne_top _), add_assoc,
      mul_comm _ (x k), add_self, mul_comm (a : EReal) (d k), ← hs]
    congr 1
    rw [mul_neg, show x k * (a : EReal) * (T * (a : EReal) * ((1 / 1024 : ℝ) : EReal))
        = x k * T * ((a * a * (1 / 1024) : ℝ) : EReal) from by
        rw [EReal.coe_mul, EReal.coe_mul]; ac_rfl,
      show x k * (T * (((-(1 / 2) : ℝ) : EReal) * ((a : EReal) * ((a * a : ℝ) : EReal))) * ((1 / 1024 : ℝ) : EReal)) * ((2 : ℝ) : EReal)
        = x k * T * ((-(a * (a * a * (1 / 1024))) : ℝ) : EReal) from by
        rw [show (-(a * (a * a * (1 / 1024))) : ℝ) = (-(1 / 2)) * (a * (a * a)) * (1 / 1024) * 2 by ring, EReal.coe_mul, EReal.coe_mul,
          EReal.coe_mul, EReal.coe_mul, EReal.coe_mul a, EReal.coe_mul a]
        simp only [mul_assoc],
      EReal.coe_neg, mul_neg, EReal.coe_mul a, mul_left_comm]

end Cert.Row

end
-- ==== Proof.TailRow.lean ====
/- One row of the step's tail, over the extended reals: the normalised heads, the two gated branches, their merge, the residual, and
   the loss's gradient back through the output projection to the branches and to the attention's output. -/
module

public import proofs.«01_k».proof.Proof.Row
public import Idealize.ShloMosaic.Lib.ValueIdxCore

@[expose] public section

noncomputable section

open Idealize.ShloMosaic Idealize.ShloMosaic.ValueIdx
open scoped BigOperators

namespace Cert.Tail

/-- A row of the arguments: the recurrence's output, the attention's, the four gates' columns, the residual and the target. -/
structure Row where
  (o oa hg ag mh ma x t : Fin 1024 → EReal)

/-- The weights: the two branches', the output's, the heads' norm and the final norm. -/
structure Weights where
  (bh ba out : Fin 1024 → Fin 1024 → EReal)
  (hn fn : Fin 1024 → EReal)

/-! ## The sigmoid -/

theorem half : Ideal.ofBits .f32 0x3F000000#32 = ((1 / 2 : ℝ) : EReal) := by
  simp [Ideal.ofBits, Ideal.ieee, -EReal.coe_mul]; norm_num

theorem one : Ideal.ofBits .f32 0x3F800000#32 = 1 := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem inverse : Ideal.ofBits .f32 0x3A800000#32 = ((1 / 1024 : ℝ) : EReal) := by
  simp [Ideal.ofBits, Ideal.ieee, -EReal.coe_mul]; norm_num

theorem tanh_half (r : ℝ) : 1 / 2 * Real.tanh (1 / 2 * r) + 1 / 2 = (1 + Real.exp (-r))⁻¹ := by
  rw [Real.tanh_eq_sinh_div_cosh, Real.sinh_eq, Real.cosh_eq]
  have e : Real.exp (-r) = Real.exp (-(1 / 2 * r)) * Real.exp (-(1 / 2 * r)) := by rw [← Real.exp_add]; congr 1; ring
  have h : Real.exp (1 / 2 * r) * Real.exp (-(1 / 2 * r)) = 1 := by rw [← Real.exp_add]; simp
  have p := Real.exp_pos (1 / 2 * r)
  have q := Real.exp_pos (-(1 / 2 * r))
  rw [e]
  generalize Real.exp (1 / 2 * r) = a at *
  generalize Real.exp (-(1 / 2 * r)) = b at *
  have : a + b ≠ 0 := by positivity
  have : 1 + b * b ≠ 0 := by positivity
  field_simp
  nlinarith [h]

/-- The sigmoid by the hyperbolic tangent. -/
theorem sigmoid (v : EReal) : Ideal.ofBits .f32 0x3F000000#32 * Ideal.tanh (Ideal.ofBits .f32 0x3F000000#32 * v)
    + Ideal.ofBits .f32 0x3F000000#32 = Ideal.logistic v := by
  rw [half]
  induction v using EReal.rec with
  | bot =>
    rw [EReal.coe_mul_bot_of_pos (by norm_num), Ideal.logistic_bot]
    show ((1 / 2 : ℝ) : EReal) * ((-1 : ℝ) : EReal) + _ = _
    rw [← EReal.coe_mul, ← EReal.coe_add]; norm_num
  | top =>
    rw [EReal.coe_mul_top_of_pos (by norm_num), Ideal.logistic_top]
    show ((1 / 2 : ℝ) : EReal) * ((1 : ℝ) : EReal) + _ = _
    rw [← EReal.coe_mul, ← EReal.coe_add]; norm_num
  | coe r =>
    rw [Ideal.logistic_coe, ← EReal.coe_mul]
    show ((1 / 2 : ℝ) : EReal) * ((Real.tanh (1 / 2 * r) : ℝ) : EReal) + _ = _
    rw [← EReal.coe_mul, ← EReal.coe_add, tanh_half]

/-- The sigmoid as the reference spells it. -/
theorem sigmoid' (v : EReal) : Ideal.div (Ideal.ofBits .f32 0x3F800000#32) (Ideal.ofBits .f32 0x3F800000#32 + Ideal.exp (-v))
    = Ideal.logistic v := by rw [one]; rfl

/-! ## Forward -/

/-- A value times its sigmoid. -/
def silu (v : EReal) : EReal := v * Ideal.logistic v

/-- The scale of a head. -/
def headScale (o : Fin 1024 → EReal) (h : Fin 8) : EReal :=
  Ideal.rsqrt (Ideal.div (∑ j : Fin 128, o ⟨128 * h.val + j.val, by omega⟩ * o ⟨128 * h.val + j.val, by omega⟩)
    (Ideal.ofBits .f32 0x43000000#32) + Ideal.ofBits .f32 0x358637BD#32)

variable (w : Weights) (r : Row)

/-- The recurrence's gated branch. -/
def gh (k : Fin 1024) : EReal := r.o k * headScale r.o ⟨k.val / 128, by omega⟩ * w.hn k * silu (r.hg k)
/-- The attention's. -/
def ga (k : Fin 1024) : EReal := r.oa k * silu (r.ag k)
def yh (k : Fin 1024) : EReal := ∑ j, gh w r j * w.bh j k
def ya (k : Fin 1024) : EReal := ∑ j, ga r j * w.ba j k
/-- The merge. -/
def mg (k : Fin 1024) : EReal := Ideal.logistic (r.mh k) * yh w r k + Ideal.logistic (r.ma k) * ya w r k
/-- The residual after the block. -/
def x2 (k : Fin 1024) : EReal := r.x k + ∑ j, mg w r j * w.out j k

/-! ## The loss's gradient -/

/-- The normalised row less the target. -/
def err (k : Fin 1024) : EReal := x2 w r k * Cert.Row.scale (x2 w r) * w.fn k - r.t k
/-- The gradient of the normalised row. -/
def cot (k : Fin 1024) : EReal := err w r k * ((1 / 1024 : ℝ) : EReal) * w.fn k
/-- The gradient of the residual. -/
def dx (k : Fin 1024) : EReal := Cert.Row.scale (x2 w r) * (cot w r k - x2 w r k * Cert.Row.scale (x2 w r)
  * Ideal.div (∑ j, cot w r j * (x2 w r j * Cert.Row.scale (x2 w r))) (Ideal.ofBits .f32 0x44800000#32))
def dmg (k : Fin 1024) : EReal := ∑ j, dx w r j * w.out k j
/-- The gradients of the branches. -/
def dyh (k : Fin 1024) : EReal := dmg w r k * Ideal.logistic (r.mh k)
def dya (k : Fin 1024) : EReal := dmg w r k * Ideal.logistic (r.ma k)
def dga (k : Fin 1024) : EReal := ∑ j, dya w r j * w.ba k j
/-- The gradient of the attention's output. -/
def doa (k : Fin 1024) : EReal := dga w r k * silu (r.ag k)

/-- The loss's mean and the square's derivative, as the reference multiplies them. -/
theorem rate (e : EReal) : Ideal.div (Ideal.ofBits .f32 0x3F000000#32 * Ideal.ofBits .f32 0x3F800000#32) (Ideal.ofBits .f32 0x44800000#32)
    * (Ideal.ofBits .f32 0x40000000#32 * e) = e * ((1 / 1024 : ℝ) : EReal) := by
  rw [half, one, Cert.Row.cols, two, mul_one, Ideal.div_coe (by norm_num), ← mul_assoc, ← EReal.coe_mul, ← EReal.coe_mul, mul_comm]
  norm_num

/-! ## Whole arrays -/

/-- The arguments: the two outputs, the residual, the target, the projection that holds the gates' columns, and the weights. -/
structure Args where
  (o oa x t : Vec Ideal ⟨2, ![8192, 1024]⟩ .f32)
  proj : Vec Ideal ⟨2, ![8192, 8704]⟩ .f32
  (bh ba out : Vec Ideal ⟨2, ![1024, 1024]⟩ .bf16)
  (hn fn : Vec Ideal ⟨2, ![1, 1024]⟩ .f32)

/-- Their row `i`. -/
def Args.row (a : Args) (i : Fin 8192) : Row where
  o k := a.o (ix2 i k)
  oa k := a.oa (ix2 i k)
  hg k := a.proj (ix2 i ⟨3072 + k.val, by omega⟩)
  ag k := a.proj (ix2 i ⟨5632 + k.val, by omega⟩)
  mh k := a.proj (ix2 i ⟨6656 + k.val, by omega⟩)
  ma k := a.proj (ix2 i ⟨7680 + k.val, by omega⟩)
  x k := a.x (ix2 i k)
  t k := a.t (ix2 i k)

def Args.weights (a : Args) : Weights where
  bh j k := a.bh (ix2 j k)
  ba j k := a.ba (ix2 j k)
  out j k := a.out (ix2 j k)
  hn k := a.hn (ix2 0 k)
  fn k := a.fn (ix2 0 k)

/-- A result from its rows. -/
def Args.array (a : Args) (f : Weights → Row → Fin 1024 → EReal) : (⟨2, ![8192, 1024]⟩ : Shape).Idx → EReal :=
  fun z => f a.weights (a.row (z 0)) (z 1)

end Cert.Tail

end
-- ==== Proof.TailBlock.lean ====
/- The tail's block: the operations of one point on its 256 rows, and what each leaves at an index over the extended reals. -/
module

public import proofs.«01_k».proof.Proof.TailRow
public import proofs.«01_k».proof.Proof.Entry
public import proofs.«01_k».proof.Proof.Gen.Kernel8Ideal.Skeleton

@[expose] public section

noncomputable section

open Idealize.ShloMosaic Idealize.ShloMosaic.TcCoe Idealize.SL.Sem Idealize.ShloMosaic.ValueIdx
open scoped BigOperators

namespace Cert.Kernel8Ideal.Block

open Cert.Kernel8Ideal Cert.Kernel8Ideal.Gen

section AnyFloat

variable {F : FTy → Type} [FloatOps F]

/-- A block's rows: the wide arguments whole, the narrow ones in two halves of their columns. -/
structure Rows (F : FTy → Type) where
  (o oa hg x t : Vec F S256x1024 .f32)
  (ag ag' mh mh' ma ma' : Vec F S256x512 .f32)

/-- The weights. -/
structure Mats (F : FTy → Type) where
  (bh ba out : Vec F S1024x1024 .bf16)
  (hn fn : Vec F S1x1024 .f32)

/-- Two halves of the columns side by side. -/
def wide (a b : Vec F S256x512 .f32) : FVec F S256x1024 .f32 :=
  concatenate S256x1024 1 [⟨S256x512, a⟩, ⟨S256x512, b⟩] concatenates_S256x512_S256x512_S256x1024_d1
def num (b : BitVec 32) (s : Shape) : FVec F s .f32 := broadcast s (Scalar.ofBits .f32 b)
def round (v : FVec F S256x1024 .f32) : FVec F S256x1024 .bf16 := truncf .bf16 v bitsLt_bf16_f32
def along (v : Vec F S1x1024 .f32) : FVec F S256x1024 .f32 := broadcastTo S256x1024 v broadcasts_S1x1024_S256x1024
def across (v : FVec F S256x1 .f32) : FVec F S256x1024 .f32 := broadcastTo S256x1024 v broadcasts_S256x1_S256x1024
/-- The sums of the rows. -/
def sums (v : FVec F S256x1024 .f32) : FVec F S256x1 .f32 :=
  shapeCast S256x1 (multiReduction .add [1] S256 v 0x00000000#32 reduces_S256x1024_S256 (.inl rfl) rfl) shapeCasts_S256_S256x1

def sig (v : FVec F S256x1024 .f32) : FVec F S256x1024 .f32 :=
  addf (mulf (num 0x3F000000#32 _) (tanh (mulf (num 0x3F000000#32 _) v))) (num 0x3F000000#32 _)
def silu (v : FVec F S256x1024 .f32) : FVec F S256x1024 .f32 := mulf v (sig v)

/-- A head's columns. -/
def cut (o : Vec F S256x1024 .f32) (n : ℕ) (h : S256x1024.Slices ![0, n] S256x128) : FVec F S256x128 .f32 :=
  extractStridedSlice S256x128 ![0, n] o h
/-- A head's scales, one for each row. -/
def headScale (v : FVec F S256x128 .f32) : FVec F S256x1 .f32 :=
  rsqrt (addf (divf (shapeCast S256x1 (multiReduction .add [1] S256 (mulf v v) 0x00000000#32 reduces_S256x128_S256 (.inl rfl) rfl)
    shapeCasts_S256_S256x1) (num 0x43000000#32 _)) (num 0x358637BD#32 _))
/-- A head normalised. -/
def head (v : FVec F S256x128 .f32) : FVec F S256x128 .f32 :=
  mulf v (broadcastTo S256x128 (headScale v) broadcasts_S256x1_S256x128)
/-- The eight heads normalised. -/
def heads (o : Vec F S256x1024 .f32) : FVec F S256x1024 .f32 :=
  concatenate S256x1024 1 [⟨S256x128, head (cut o 0 slices_S256x1024_o0_0_S256x128)⟩, ⟨S256x128, head (cut o 128 slices_S256x1024_o0_128_S256x128)⟩,
    ⟨S256x128, head (cut o 256 slices_S256x1024_o0_256_S256x128)⟩, ⟨S256x128, head (cut o 384 slices_S256x1024_o0_384_S256x128)⟩,
    ⟨S256x128, head (cut o 512 slices_S256x1024_o0_512_S256x128)⟩, ⟨S256x128, head (cut o 640 slices_S256x1024_o0_640_S256x128)⟩,
    ⟨S256x128, head (cut o 768 slices_S256x1024_o0_768_S256x128)⟩, ⟨S256x128, head (cut o 896 slices_S256x1024_o0_896_S256x128)⟩]
    concatenates_S256x128_S256x128_S256x128_S256x128_S256x128_S256x128_S256x128_S256x128_S256x1024_d1

/-- A product with a weight. -/
def times (a : FVec F S256x1024 .bf16) (w : Vec F S1024x1024 .bf16) : FVec F S256x1024 .f32 :=
  matmul dot_S256x1024_S1024x1024_S256x1024_1_0_0_1_n_n none a w (constant S256x1024 .f32 0x00000000#32)
/-- A product with a weight transposed. -/
def back (a : FVec F S256x1024 .bf16) (w : Vec F S1024x1024 .bf16) : FVec F S256x1024 .f32 :=
  matmul dot_S256x1024_S1024x1024_S256x1024_1_1_0_0_n_n none a w (constant S256x1024 .f32 0x00000000#32)

/-- The scales of the rows. -/
def scale (x : FVec F S256x1024 .f32) : FVec F S256x1 .f32 :=
  rsqrt (addf (divf (sums (mulf x x)) (num 0x44800000#32 _)) (num 0x358637BD#32 _))
def normed (x : FVec F S256x1024 .f32) : FVec F S256x1024 .f32 := mulf x (across (scale x))

variable (w : Mats F) (p : Rows F)

def gh : FVec F S256x1024 .bf16 := round (mulf (mulf (heads p.o) (along w.hn)) (silu p.hg))
def ga : FVec F S256x1024 .bf16 := round (mulf p.oa (silu (wide p.ag p.ag')))
def yh : FVec F S256x1024 .f32 := times (gh w p) w.bh
def ya : FVec F S256x1024 .f32 := times (ga p) w.ba
def mg : FVec F S256x1024 .bf16 :=
  round (addf (mulf (sig (wide p.mh p.mh')) (yh w p)) (mulf (sig (wide p.ma p.ma')) (ya w p)))
def x2 : FVec F S256x1024 .f32 := addf p.x (times (mg w p) w.out)
/-- The normalised rows' gradient. -/
def cot : FVec F S256x1024 .f32 :=
  mulf (mulf (subf (mulf (normed (x2 w p)) (along w.fn)) p.t) (num 0x3A800000#32 _)) (along w.fn)
/-- The residual's gradient. -/
def dx : FVec F S256x1024 .f32 := mulf (across (scale (x2 w p))) (subf (cot w p) (mulf (normed (x2 w p))
  (across (divf (sums (mulf (cot w p) (normed (x2 w p)))) (num 0x44800000#32 _)))))
def dmg : FVec F S256x1024 .f32 := back (round (dx w p)) w.out
def dyh : FVec F S256x1024 .bf16 := round (mulf (dmg w p) (sig (wide p.mh p.mh')))
def dya : FVec F S256x1024 .bf16 := round (mulf (dmg w p) (sig (wide p.ma p.ma')))
def doa : FVec F S256x1024 .f32 := mulf (back (dya w p) w.ba) (silu (wide p.ag p.ag'))

end AnyFloat

/-! ## At an index, over the extended reals -/

/-- A row of the block. -/
def Rows.row (p : Rows Ideal) (i : Fin 256) : Cert.Tail.Row where
  o k := p.o (ix2 i k)
  oa k := p.oa (ix2 i k)
  hg k := p.hg (ix2 i k)
  ag k := wide p.ag p.ag' (ix2 i k)
  mh k := wide p.mh p.mh' (ix2 i k)
  ma k := wide p.ma p.ma' (ix2 i k)
  x k := p.x (ix2 i k)
  t k := p.t (ix2 i k)

def Mats.at (w : Mats Ideal) : Cert.Tail.Weights where
  bh j k := w.bh (ix2 j k)
  ba j k := w.ba (ix2 j k)
  out j k := w.out (ix2 j k)
  hn k := w.hn (ix2 0 k)
  fn k := w.fn (ix2 0 k)

theorem along_apply (v : Vec Ideal S1x1024 .f32) (i : Fin 256) (k : Fin 1024) : along v (ix2 i k) = v (ix2 0 k) :=
  broadcastTo_apply _ _ _ (ix2 0 k) (fun a => by match a with | 0 => rfl | 1 => rfl)
theorem across_apply (v : FVec Ideal S256x1 .f32) (i : Fin 256) (k : Fin 1024) : across v (ix2 i k) = v (ix2 i 0) :=
  broadcastTo_apply _ _ _ (ix2 i 0) (fun a => by match a with | 0 => rfl | 1 => rfl)
theorem sums_apply (v : FVec Ideal S256x1024 .f32) (i : Fin 256) : sums v (ix2 i 0) = ∑ j : Fin 1024, v (ix2 i j) := by
  unfold sums
  rw [shapeCast_apply _ _ _ (ix1 i) (by rw [Shape.rowMajor_val_two, Shape.rowMajor_val_one]; simp)]
  exact (Ideal.multiReduction_add_single v _ reduces_S256x1024_S256 (.inl rfl) rfl (ix1 i)).trans
    (Finset.sum_congr rfl fun _ _ => congrArg v (Shape.idx_ext₂ rfl rfl))
theorem sig_apply (v : FVec Ideal S256x1024 .f32) (y : S256x1024.Idx) : sig v y = Ideal.logistic (v y) := Cert.Tail.sigmoid (v y)
theorem silu_apply (v : FVec Ideal S256x1024 .f32) (y : S256x1024.Idx) : silu v y = Cert.Tail.silu (v y) :=
  congrArg (v y * ·) (sig_apply v y)

/-- A row of two halves side by side. -/
theorem wide_left (a b : Vec Ideal S256x512 .f32) (i : Fin 256) (k : Fin 512) : wide a b (ix2 i ⟨k.val, by omega⟩) = a (ix2 i k) := by
  have off : ∀ b : Fin 2, b ≠ 1 → b = 0 := by decide
  exact concatenate_apply_piece (t := S256x1024) 1 _ _ _ 0 (by show 0 < 2; omega) S256x512 a rfl rfl 0 rfl (ix2 i k)
    (fun b hb => by obtain rfl := off b hb; rfl) (Nat.zero_add _)
theorem wide_right (a b : Vec Ideal S256x512 .f32) (i : Fin 256) (k : Fin 512) :
    wide a b (ix2 i ⟨512 + k.val, by omega⟩) = b (ix2 i k) := by
  have off : ∀ b : Fin 2, b ≠ 1 → b = 0 := by decide
  exact concatenate_apply_piece (t := S256x1024) 1 _ _ _ 1 (by show 1 < 2; omega) S256x512 b rfl rfl 512 rfl (ix2 i k)
    (fun b hb => by obtain rfl := off b hb; rfl) rfl

theorem times_apply (a : FVec Ideal S256x1024 .bf16) (b : Vec Ideal S1024x1024 .bf16) (i : Fin 256) (k : Fin 1024) :
    times a b (ix2 i k) = ∑ j : Fin 1024, a (ix2 i j) * b (ix2 j k) :=
  Cert.Entry.matmul_entry (φ := .bf16) dot_S256x1024_S1024x1024_S256x1024_1_0_0_1_n_n rfl rfl
    (fun _ _ _ => Shape.idx_ext₂ rfl rfl) (fun _ _ _ => Shape.idx_ext₂ rfl rfl) a b i k

theorem back_apply (a : FVec Ideal S256x1024 .bf16) (b : Vec Ideal S1024x1024 .bf16) (i : Fin 256) (k : Fin 1024) :
    back a b (ix2 i k) = ∑ j : Fin 1024, a (ix2 i j) * b (ix2 k j) := by
  unfold back matmul
  rw [Ideal.matmul_constant_zero_apply, Cert.Sums.contracted _ 1024 rfl rfl]
  refine Finset.sum_congr rfl fun j _ => ?_
  congr 2 <;> exact Shape.idx_ext₂ rfl rfl

theorem scale_apply (x : FVec Ideal S256x1024 .f32) (i : Fin 256) : scale x (ix2 i 0) = Cert.Row.scale fun j => x (ix2 i j) := by
  unfold scale Cert.Row.scale Cert.Row.var
  exact congrArg (fun v => Ideal.rsqrt (Ideal.div v _ + _)) (sums_apply (mulf x x) i)

theorem normed_apply (x : FVec Ideal S256x1024 .f32) (i : Fin 256) (k : Fin 1024) :
    normed x (ix2 i k) = x (ix2 i k) * Cert.Row.scale fun j => x (ix2 i j) :=
  congrArg (x (ix2 i k) * ·) ((across_apply _ i k).trans (scale_apply x i))

/-! ### The heads -/

theorem head_apply (v : FVec Ideal S256x128 .f32) (i : Fin 256) (c : Fin 128) : head v (ix2 i c) = v (ix2 i c) * Ideal.rsqrt
    (Ideal.div (∑ j : Fin 128, v (ix2 i j) * v (ix2 i j)) (Ideal.ofBits .f32 0x43000000#32) + Ideal.ofBits .f32 0x358637BD#32) := by
  unfold head
  refine congrArg (v (ix2 i c) * ·) ?_
  rw [broadcastTo_apply _ _ _ (ix2 i 0) (fun a => by match a with | 0 => rfl | 1 => rfl)]
  unfold headScale
  refine congrArg (fun v => Ideal.rsqrt (Ideal.div v _ + _)) ?_
  rw [shapeCast_apply _ _ _ (ix1 i) (by rw [Shape.rowMajor_val_two, Shape.rowMajor_val_one]; simp)]
  exact (Ideal.multiReduction_add_single _ _ reduces_S256x128_S256 (.inl rfl) rfl (ix1 i)).trans
    (Finset.sum_congr rfl fun _ _ => congrArg (mulf v v) (Shape.idx_ext₂ rfl rfl))

theorem heads_piece (o : Vec Ideal S256x1024 .f32) (i : Fin 256) (h : Fin 8) (c : Fin 128)
    (s : S256x1024.Slices ![0, 128 * h.val] S256x128) : head (cut o (128 * h.val) s) (ix2 i c)
      = o (ix2 i ⟨128 * h.val + c.val, by omega⟩) * Cert.Tail.headScale (fun j => o (ix2 i j)) h := by
  have e : ∀ c : Fin 128, cut o (128 * h.val) s (ix2 i c) = o (ix2 i ⟨128 * h.val + c.val, by omega⟩) := fun c =>
    congrArg o (Shape.idx_ext₂ (Nat.zero_add _) rfl)
  rw [head_apply]
  simp only [e]
  rfl

theorem heads_apply (o : Vec Ideal S256x1024 .f32) (i : Fin 256) (k : Fin 1024) :
    heads o (ix2 i k) = o (ix2 i k) * Cert.Tail.headScale (fun j => o (ix2 i j)) ⟨k.val / 128, by omega⟩ := by
  obtain ⟨h, c, rfl⟩ : ∃ (h : Fin 8) (c : Fin 128), k = ⟨128 * h.val + c.val, by omega⟩ :=
    ⟨⟨k.val / 128, by omega⟩, ⟨k.val % 128, by omega⟩, Fin.ext (by dsimp only; omega)⟩
  have d : (⟨(128 * h.val + c.val) / 128, by omega⟩ : Fin 8) = h := Fin.ext (by dsimp only; omega)
  have off : ∀ b : Fin 2, b ≠ 1 → b = 0 := by decide
  show _ = _ * Cert.Tail.headScale _ ⟨(128 * h.val + c.val) / 128, _⟩
  rw [d]
  unfold heads
  match h with
  | 0 => exact (concatenate_apply_piece (t := S256x1024) 1 _ _ _ 0 (by show 0 < 8; omega) S256x128 _ rfl rfl 0 rfl (ix2 i c)
      (fun b hb => by obtain rfl := off b hb; rfl) rfl).trans (heads_piece o i 0 c _)
  | 1 => exact (concatenate_apply_piece (t := S256x1024) 1 _ _ _ 1 (by show 1 < 8; omega) S256x128 _ rfl rfl 128 rfl (ix2 i c)
      (fun b hb => by obtain rfl := off b hb; rfl) rfl).trans (heads_piece o i 1 c _)
  | 2 => exact (concatenate_apply_piece (t := S256x1024) 1 _ _ _ 2 (by show 2 < 8; omega) S256x128 _ rfl rfl 256 rfl (ix2 i c)
      (fun b hb => by obtain rfl := off b hb; rfl) rfl).trans (heads_piece o i 2 c _)
  | 3 => exact (concatenate_apply_piece (t := S256x1024) 1 _ _ _ 3 (by show 3 < 8; omega) S256x128 _ rfl rfl 384 rfl (ix2 i c)
      (fun b hb => by obtain rfl := off b hb; rfl) rfl).trans (heads_piece o i 3 c _)
  | 4 => exact (concatenate_apply_piece (t := S256x1024) 1 _ _ _ 4 (by show 4 < 8; omega) S256x128 _ rfl rfl 512 rfl (ix2 i c)
      (fun b hb => by obtain rfl := off b hb; rfl) rfl).trans (heads_piece o i 4 c _)
  | 5 => exact (concatenate_apply_piece (t := S256x1024) 1 _ _ _ 5 (by show 5 < 8; omega) S256x128 _ rfl rfl 640 rfl (ix2 i c)
      (fun b hb => by obtain rfl := off b hb; rfl) rfl).trans (heads_piece o i 5 c _)
  | 6 => exact (concatenate_apply_piece (t := S256x1024) 1 _ _ _ 6 (by show 6 < 8; omega) S256x128 _ rfl rfl 768 rfl (ix2 i c)
      (fun b hb => by obtain rfl := off b hb; rfl) rfl).trans (heads_piece o i 6 c _)
  | 7 => exact (concatenate_apply_piece (t := S256x1024) 1 _ _ _ 7 (by show 7 < 8; omega) S256x128 _ rfl rfl 896 rfl (ix2 i c)
      (fun b hb => by obtain rfl := off b hb; rfl) rfl).trans (heads_piece o i 7 c _)

/-! ### Forward -/

variable (w : Mats Ideal) (p : Rows Ideal) (i : Fin 256) (k : Fin 1024)

theorem gh_apply : gh w p (ix2 i k) = Cert.Tail.gh w.at (p.row i) k :=
  congrArg₂ (· * ·) (congrArg₂ (· * ·) (heads_apply p.o i k) (along_apply w.hn i k)) (silu_apply p.hg _)
theorem ga_apply : ga p (ix2 i k) = Cert.Tail.ga (p.row i) k := congrArg (p.oa (ix2 i k) * ·) (silu_apply (wide p.ag p.ag') _)
theorem yh_apply : yh w p (ix2 i k) = Cert.Tail.yh w.at (p.row i) k :=
  (times_apply _ _ i k).trans (Finset.sum_congr rfl fun j _ => congrArg (· * w.bh (ix2 j k)) (gh_apply w p i j))
theorem ya_apply : ya w p (ix2 i k) = Cert.Tail.ya w.at (p.row i) k :=
  (times_apply _ _ i k).trans (Finset.sum_congr rfl fun j _ => congrArg (· * w.ba (ix2 j k)) (ga_apply p i j))
theorem mg_apply : mg w p (ix2 i k) = Cert.Tail.mg w.at (p.row i) k :=
  congrArg₂ (· + ·) (congrArg₂ (· * ·) (sig_apply _ _) (yh_apply w p i k)) (congrArg₂ (· * ·) (sig_apply _ _) (ya_apply w p i k))
theorem x2_apply : x2 w p (ix2 i k) = Cert.Tail.x2 w.at (p.row i) k :=
  congrArg (p.x (ix2 i k) + ·) ((times_apply _ _ i k).trans
    (Finset.sum_congr rfl fun j _ => congrArg (· * w.out (ix2 j k)) (mg_apply w p i j)))

/-! ### The gradient -/

theorem scale_x2 : scale (x2 w p) (ix2 i 0) = Cert.Row.scale (Cert.Tail.x2 w.at (p.row i)) :=
  (scale_apply _ i).trans (congrArg Cert.Row.scale (funext fun j => x2_apply w p i j))
theorem normed_x2 : normed (x2 w p) (ix2 i k) = Cert.Tail.x2 w.at (p.row i) k * Cert.Row.scale (Cert.Tail.x2 w.at (p.row i)) :=
  congrArg₂ (· * ·) (x2_apply w p i k) ((across_apply _ i k).trans (scale_x2 w p i))
theorem cot_apply : cot w p (ix2 i k) = Cert.Tail.cot w.at (p.row i) k :=
  congrArg₂ (· * ·) (congrArg₂ (· * ·) (congrArg (· - p.t (ix2 i k))
    (congrArg₂ (· * ·) (normed_x2 w p i k) (along_apply w.fn i k))) Cert.Tail.inverse) (along_apply w.fn i k)
theorem dx_apply : dx w p (ix2 i k) = Cert.Tail.dx w.at (p.row i) k := by
  refine congrArg₂ (· * ·) ((across_apply _ i k).trans (scale_x2 w p i)) (congrArg₂ (· - ·) (cot_apply w p i k)
    (congrArg₂ (· * ·) (normed_x2 w p i k) ((across_apply _ i k).trans (congrArg (fun v => Ideal.div v _) ((sums_apply _ i).trans
      (Finset.sum_congr rfl fun j _ => ?_))))))
  exact congrArg₂ (· * ·) (cot_apply w p i j) (normed_x2 w p i j)
theorem dmg_apply : dmg w p (ix2 i k) = Cert.Tail.dmg w.at (p.row i) k :=
  (back_apply _ _ i k).trans (Finset.sum_congr rfl fun j _ => congrArg (· * w.out (ix2 k j)) (dx_apply w p i j))
theorem dyh_apply : dyh w p (ix2 i k) = Cert.Tail.dyh w.at (p.row i) k := congrArg₂ (· * ·) (dmg_apply w p i k) (sig_apply _ _)
theorem dya_apply : dya w p (ix2 i k) = Cert.Tail.dya w.at (p.row i) k := congrArg₂ (· * ·) (dmg_apply w p i k) (sig_apply _ _)
theorem doa_apply : doa w p (ix2 i k) = Cert.Tail.doa w.at (p.row i) k :=
  congrArg₂ (· * ·) ((back_apply _ _ i k).trans (Finset.sum_congr rfl fun j _ => congrArg (· * w.ba (ix2 k j)) (dya_apply w p i j)))
    (silu_apply _ _)

end Cert.Kernel8Ideal.Block

end
-- ==== Proof.TailRows.lean ====
/- The blocks that the tail's points read: each point's 256 rows of the arguments, and the weights whole. -/
module

public import proofs.«01_k».proof.Proof.TailBlock
public import proofs.«01_k».proof.Proof.Gen.Kernel8Ideal.Frame.Runs
public import Idealize.ShloMosaic.Lib.Tactic

@[expose] public section

noncomputable section

open Idealize.ShloMosaic Idealize.ShloMosaic.TcCoe Idealize.SL.Sem Idealize.ShloMosaic.ValueIdx
open scoped BigOperators

namespace Cert.Kernel8Ideal.Whole

open Cert.Kernel8Ideal Cert.Kernel8Ideal.Gen
open Cert.Kernel8Ideal.Block (Rows Mats)

section AnyFloat

variable {F : FTy → Type} [FloatOps F] (m : (ℓ : Loc nD τ sig) → Buf (Elt F) ℓ) (c : Dev nD) (t : Fin cfg0.N)

/-- The rows that a point reads, and the weights. -/
def rows : Rows F :=
  ⟨iblk m c 0 t, iblk m c 1 t, X0_2 m c t, iblk m c 9 t, iblk m c 10 t, iblk m c 3 t, iblk m c 4 t, iblk m c 5 t, iblk m c 6 t,
    iblk m c 7 t, iblk m c 8 t⟩
def mats : Mats F := ⟨iblk m c 11 t, iblk m c 12 t, iblk m c 13 t, iblk m c 14 t, iblk m c 15 t⟩

end AnyFloat

variable (m : (ℓ : Loc nD τ sig) → Buf (Elt Ideal) ℓ) (c : Dev nD)

/-- The program's arguments. -/
def args : Cert.Tail.Args :=
  ⟨m (c.tc.loc main_arg0), m (c.tc.loc main_arg1), m (c.tc.loc main_arg3), m (c.tc.loc main_arg4), m (c.tc.loc main_arg2),
    m (c.tc.loc main_arg5), m (c.tc.loc main_arg6), m (c.tc.loc main_arg7), m (c.tc.loc main_arg8), m (c.tc.loc main_arg9)⟩

theorem points : cfg0.N = 32 := N_0

/-- The array's row that a point's row `i` is. -/
def at' (t : Fin cfg0.N) (i : Fin 256) : Fin 8192 := ⟨256 * t.val + i.val, by have := lt_of_lt_of_eq t.isLt points; omega⟩

theorem start0 : ∀ t : Fin cfg0.N, win0_0.index t 0 = t.val ∧ win0_0.index t 1 = 0 :=
  (by decide +kernel : ∀ t : Fin grid0.N, win0_0.index t 0 = t.val ∧ win0_0.index t 1 = 0)
theorem start1 : ∀ t : Fin cfg0.N, win0_1.index t 0 = t.val ∧ win0_1.index t 1 = 0 :=
  (by decide +kernel : ∀ t : Fin grid0.N, win0_1.index t 0 = t.val ∧ win0_1.index t 1 = 0)
theorem start2 : ∀ t : Fin cfg0.N, win0_2.index t 0 = t.val ∧ win0_2.index t 1 = 3 :=
  (by decide +kernel : ∀ t : Fin grid0.N, win0_2.index t 0 = t.val ∧ win0_2.index t 1 = 3)
theorem start3 : ∀ t : Fin cfg0.N, win0_3.index t 0 = t.val ∧ win0_3.index t 1 = 11 :=
  (by decide +kernel : ∀ t : Fin grid0.N, win0_3.index t 0 = t.val ∧ win0_3.index t 1 = 11)
theorem start4 : ∀ t : Fin cfg0.N, win0_4.index t 0 = t.val ∧ win0_4.index t 1 = 12 :=
  (by decide +kernel : ∀ t : Fin grid0.N, win0_4.index t 0 = t.val ∧ win0_4.index t 1 = 12)
theorem start5 : ∀ t : Fin cfg0.N, win0_5.index t 0 = t.val ∧ win0_5.index t 1 = 13 :=
  (by decide +kernel : ∀ t : Fin grid0.N, win0_5.index t 0 = t.val ∧ win0_5.index t 1 = 13)
theorem start6 : ∀ t : Fin cfg0.N, win0_6.index t 0 = t.val ∧ win0_6.index t 1 = 14 :=
  (by decide +kernel : ∀ t : Fin grid0.N, win0_6.index t 0 = t.val ∧ win0_6.index t 1 = 14)
theorem start7 : ∀ t : Fin cfg0.N, win0_7.index t 0 = t.val ∧ win0_7.index t 1 = 15 :=
  (by decide +kernel : ∀ t : Fin grid0.N, win0_7.index t 0 = t.val ∧ win0_7.index t 1 = 15)
theorem start8 : ∀ t : Fin cfg0.N, win0_8.index t 0 = t.val ∧ win0_8.index t 1 = 16 :=
  (by decide +kernel : ∀ t : Fin grid0.N, win0_8.index t 0 = t.val ∧ win0_8.index t 1 = 16)
theorem start9 : ∀ t : Fin cfg0.N, win0_9.index t 0 = t.val ∧ win0_9.index t 1 = 0 :=
  (by decide +kernel : ∀ t : Fin grid0.N, win0_9.index t 0 = t.val ∧ win0_9.index t 1 = 0)
theorem start10 : ∀ t : Fin cfg0.N, win0_10.index t 0 = t.val ∧ win0_10.index t 1 = 0 :=
  (by decide +kernel : ∀ t : Fin grid0.N, win0_10.index t 0 = t.val ∧ win0_10.index t 1 = 0)
theorem start11 : ∀ t : Fin cfg0.N, win0_11.index t 0 = 0 ∧ win0_11.index t 1 = 0 :=
  (by decide +kernel : ∀ t : Fin grid0.N, win0_11.index t 0 = 0 ∧ win0_11.index t 1 = 0)
theorem start12 : ∀ t : Fin cfg0.N, win0_12.index t 0 = 0 ∧ win0_12.index t 1 = 0 :=
  (by decide +kernel : ∀ t : Fin grid0.N, win0_12.index t 0 = 0 ∧ win0_12.index t 1 = 0)
theorem start13 : ∀ t : Fin cfg0.N, win0_13.index t 0 = 0 ∧ win0_13.index t 1 = 0 :=
  (by decide +kernel : ∀ t : Fin grid0.N, win0_13.index t 0 = 0 ∧ win0_13.index t 1 = 0)
theorem start14 : ∀ t : Fin cfg0.N, win0_14.index t 0 = 0 ∧ win0_14.index t 1 = 0 :=
  (by decide +kernel : ∀ t : Fin grid0.N, win0_14.index t 0 = 0 ∧ win0_14.index t 1 = 0)
theorem start15 : ∀ t : Fin cfg0.N, win0_15.index t 0 = 0 ∧ win0_15.index t 1 = 0 :=
  (by decide +kernel : ∀ t : Fin grid0.N, win0_15.index t 0 = 0 ∧ win0_15.index t 1 = 0)

/-! ## The rows -/

variable (t : Fin cfg0.N) (i : Fin 256)

theorem blk0 (k : Fin 1024) : (rows m c t).o (ix2 i k) = (args m c).o (ix2 (at' t i) k) := by
  show (iblk m c 0 t : Vec Ideal S256x1024 .f32) (ix2 i k) = _
  unfold iblk; rw [View.read_apply]
  obtain ⟨h0, h1⟩ := start0 t
  refine congrArg (m ((c : Thread nD τ).loc main_arg0)) (Shape.idx_ext₂ ?_ ?_)
  · show win0_0.index t 0 * 256 + 1 * i.val = 256 * t.val + i.val; omega
  · show win0_0.index t 1 * 1024 + 1 * k.val = k.val; omega
theorem blk1 (k : Fin 1024) : (rows m c t).oa (ix2 i k) = (args m c).oa (ix2 (at' t i) k) := by
  show (iblk m c 1 t : Vec Ideal S256x1024 .f32) (ix2 i k) = _
  unfold iblk; rw [View.read_apply]
  obtain ⟨h0, h1⟩ := start1 t
  refine congrArg (m ((c : Thread nD τ).loc main_arg1)) (Shape.idx_ext₂ ?_ ?_)
  · show win0_1.index t 0 * 256 + 1 * i.val = 256 * t.val + i.val; omega
  · show win0_1.index t 1 * 1024 + 1 * k.val = k.val; omega
theorem blk2 (k : Fin 1024) : (rows m c t).hg (ix2 i k) = (args m c).proj (ix2 (at' t i) ⟨3072 + k.val, by omega⟩) := by
  show (X0_2 m c t : Vec Ideal S256x1024 .f32) (ix2 i k) = _
  unfold X0_2 Pipeline.Window.fill; rw [dif_pos (moved0_2 t _)]
  unfold iblk; rw [View.read_apply]
  obtain ⟨h0, h1⟩ := start2 t
  refine congrArg (m ((c : Thread nD τ).loc main_arg2)) (Shape.idx_ext₂ ?_ ?_)
  · show win0_2.index t 0 * 256 + 1 * i.val = 256 * t.val + i.val; omega
  · show win0_2.index t 1 * 1024 + 1 * k.val = 3072 + k.val; omega
theorem blk3 (k : Fin 512) : (rows m c t).ag (ix2 i k) = (args m c).proj (ix2 (at' t i) ⟨5632 + k.val, by omega⟩) := by
  show (iblk m c 3 t : Vec Ideal S256x512 .f32) (ix2 i k) = _
  unfold iblk; rw [View.read_apply]
  obtain ⟨h0, h1⟩ := start3 t
  refine congrArg (m ((c : Thread nD τ).loc main_arg2)) (Shape.idx_ext₂ ?_ ?_)
  · show win0_3.index t 0 * 256 + 1 * i.val = 256 * t.val + i.val; omega
  · show win0_3.index t 1 * 512 + 1 * k.val = 5632 + k.val; omega
theorem blk4 (k : Fin 512) : (rows m c t).ag' (ix2 i k) = (args m c).proj (ix2 (at' t i) ⟨6144 + k.val, by omega⟩) := by
  show (iblk m c 4 t : Vec Ideal S256x512 .f32) (ix2 i k) = _
  unfold iblk; rw [View.read_apply]
  obtain ⟨h0, h1⟩ := start4 t
  refine congrArg (m ((c : Thread nD τ).loc main_arg2)) (Shape.idx_ext₂ ?_ ?_)
  · show win0_4.index t 0 * 256 + 1 * i.val = 256 * t.val + i.val; omega
  · show win0_4.index t 1 * 512 + 1 * k.val = 6144 + k.val; omega
theorem blk5 (k : Fin 512) : (rows m c t).mh (ix2 i k) = (args m c).proj (ix2 (at' t i) ⟨6656 + k.val, by omega⟩) := by
  show (iblk m c 5 t : Vec Ideal S256x512 .f32) (ix2 i k) = _
  unfold iblk; rw [View.read_apply]
  obtain ⟨h0, h1⟩ := start5 t
  refine congrArg (m ((c : Thread nD τ).loc main_arg2)) (Shape.idx_ext₂ ?_ ?_)
  · show win0_5.index t 0 * 256 + 1 * i.val = 256 * t.val + i.val; omega
  · show win0_5.index t 1 * 512 + 1 * k.val = 6656 + k.val; omega
theorem blk6 (k : Fin 512) : (rows m c t).mh' (ix2 i k) = (args m c).proj (ix2 (at' t i) ⟨7168 + k.val, by omega⟩) := by
  show (iblk m c 6 t : Vec Ideal S256x512 .f32) (ix2 i k) = _
  unfold iblk; rw [View.read_apply]
  obtain ⟨h0, h1⟩ := start6 t
  refine congrArg (m ((c : Thread nD τ).loc main_arg2)) (Shape.idx_ext₂ ?_ ?_)
  · show win0_6.index t 0 * 256 + 1 * i.val = 256 * t.val + i.val; omega
  · show win0_6.index t 1 * 512 + 1 * k.val = 7168 + k.val; omega
theorem blk7 (k : Fin 512) : (rows m c t).ma (ix2 i k) = (args m c).proj (ix2 (at' t i) ⟨7680 + k.val, by omega⟩) := by
  show (iblk m c 7 t : Vec Ideal S256x512 .f32) (ix2 i k) = _
  unfold iblk; rw [View.read_apply]
  obtain ⟨h0, h1⟩ := start7 t
  refine congrArg (m ((c : Thread nD τ).loc main_arg2)) (Shape.idx_ext₂ ?_ ?_)
  · show win0_7.index t 0 * 256 + 1 * i.val = 256 * t.val + i.val; omega
  · show win0_7.index t 1 * 512 + 1 * k.val = 7680 + k.val; omega
theorem blk8 (k : Fin 512) : (rows m c t).ma' (ix2 i k) = (args m c).proj (ix2 (at' t i) ⟨8192 + k.val, by omega⟩) := by
  show (iblk m c 8 t : Vec Ideal S256x512 .f32) (ix2 i k) = _
  unfold iblk; rw [View.read_apply]
  obtain ⟨h0, h1⟩ := start8 t
  refine congrArg (m ((c : Thread nD τ).loc main_arg2)) (Shape.idx_ext₂ ?_ ?_)
  · show win0_8.index t 0 * 256 + 1 * i.val = 256 * t.val + i.val; omega
  · show win0_8.index t 1 * 512 + 1 * k.val = 8192 + k.val; omega
theorem blk9 (k : Fin 1024) : (rows m c t).x (ix2 i k) = (args m c).x (ix2 (at' t i) k) := by
  show (iblk m c 9 t : Vec Ideal S256x1024 .f32) (ix2 i k) = _
  unfold iblk; rw [View.read_apply]
  obtain ⟨h0, h1⟩ := start9 t
  refine congrArg (m ((c : Thread nD τ).loc main_arg3)) (Shape.idx_ext₂ ?_ ?_)
  · show win0_9.index t 0 * 256 + 1 * i.val = 256 * t.val + i.val; omega
  · show win0_9.index t 1 * 1024 + 1 * k.val = k.val; omega
theorem blk10 (k : Fin 1024) : (rows m c t).t (ix2 i k) = (args m c).t (ix2 (at' t i) k) := by
  show (iblk m c 10 t : Vec Ideal S256x1024 .f32) (ix2 i k) = _
  unfold iblk; rw [View.read_apply]
  obtain ⟨h0, h1⟩ := start10 t
  refine congrArg (m ((c : Thread nD τ).loc main_arg4)) (Shape.idx_ext₂ ?_ ?_)
  · show win0_10.index t 0 * 256 + 1 * i.val = 256 * t.val + i.val; omega
  · show win0_10.index t 1 * 1024 + 1 * k.val = k.val; omega

/-- Two halves that hold a row's halves hold the row. -/
theorem wide_of {a b : Vec Ideal S256x512 .f32} {f : Fin 1024 → EReal} (ha : ∀ k : Fin 512, a (ix2 i k) = f ⟨k.val, by omega⟩)
    (hb : ∀ k : Fin 512, b (ix2 i k) = f ⟨512 + k.val, by omega⟩) (k : Fin 1024) : Block.wide a b (ix2 i k) = f k := by
  by_cases h : k.val < 512
  · exact (Block.wide_left a b i ⟨k.val, h⟩).trans (ha ⟨k.val, h⟩)
  · have e : k = ⟨512 + (k.val - 512), by omega⟩ := Fin.ext (by dsimp only; omega)
    rw [e]
    exact (Block.wide_right a b i ⟨k.val - 512, by omega⟩).trans (hb ⟨k.val - 512, by omega⟩)

theorem row_eq : (rows m c t).row i = (args m c).row (at' t i) := by
  have cols : ∀ {a b : ℕ} (ha : a < 8704) (hb : b < 8704), a = b →
      (args m c).proj (ix2 (at' t i) ⟨a, ha⟩) = (args m c).proj (ix2 (at' t i) ⟨b, hb⟩) := fun _ _ h => by subst h; rfl
  unfold Block.Rows.row Cert.Tail.Args.row
  congr 1 <;> funext k
  · exact blk0 m c t i k
  · exact blk1 m c t i k
  · exact blk2 m c t i k
  · exact wide_of i (f := fun k => (args m c).proj (ix2 (at' t i) ⟨5632 + k.val, by omega⟩)) (fun k => blk3 m c t i k)
      (fun k => (blk4 m c t i k).trans (cols _ _ (by dsimp only; omega))) k
  · exact wide_of i (f := fun k => (args m c).proj (ix2 (at' t i) ⟨6656 + k.val, by omega⟩)) (fun k => blk5 m c t i k)
      (fun k => (blk6 m c t i k).trans (cols _ _ (by dsimp only; omega))) k
  · exact wide_of i (f := fun k => (args m c).proj (ix2 (at' t i) ⟨7680 + k.val, by omega⟩)) (fun k => blk7 m c t i k)
      (fun k => (blk8 m c t i k).trans (cols _ _ (by dsimp only; omega))) k
  · exact blk9 m c t i k
  · exact blk10 m c t i k

/-! ## The weights -/

theorem blk11 (j : Fin 1024) (k : Fin 1024) : (mats m c t).bh (ix2 j k) = (args m c).bh (ix2 j k) := by
  show (iblk m c 11 t : Vec Ideal S1024x1024 .bf16) (ix2 j k) = _
  unfold iblk; rw [View.read_apply]
  obtain ⟨h0, h1⟩ := start11 t
  refine congrArg (m ((c : Thread nD τ).loc main_arg5)) (Shape.idx_ext₂ ?_ ?_)
  · show win0_11.index t 0 * 1024 + 1 * j.val = j.val; omega
  · show win0_11.index t 1 * 1024 + 1 * k.val = k.val; omega
theorem blk12 (j : Fin 1024) (k : Fin 1024) : (mats m c t).ba (ix2 j k) = (args m c).ba (ix2 j k) := by
  show (iblk m c 12 t : Vec Ideal S1024x1024 .bf16) (ix2 j k) = _
  unfold iblk; rw [View.read_apply]
  obtain ⟨h0, h1⟩ := start12 t
  refine congrArg (m ((c : Thread nD τ).loc main_arg6)) (Shape.idx_ext₂ ?_ ?_)
  · show win0_12.index t 0 * 1024 + 1 * j.val = j.val; omega
  · show win0_12.index t 1 * 1024 + 1 * k.val = k.val; omega
theorem blk13 (j : Fin 1024) (k : Fin 1024) : (mats m c t).out (ix2 j k) = (args m c).out (ix2 j k) := by
  show (iblk m c 13 t : Vec Ideal S1024x1024 .bf16) (ix2 j k) = _
  unfold iblk; rw [View.read_apply]
  obtain ⟨h0, h1⟩ := start13 t
  refine congrArg (m ((c : Thread nD τ).loc main_arg7)) (Shape.idx_ext₂ ?_ ?_)
  · show win0_13.index t 0 * 1024 + 1 * j.val = j.val; omega
  · show win0_13.index t 1 * 1024 + 1 * k.val = k.val; omega
theorem blk14 (j : Fin 1) (k : Fin 1024) : (mats m c t).hn (ix2 j k) = (args m c).hn (ix2 j k) := by
  show (iblk m c 14 t : Vec Ideal S1x1024 .f32) (ix2 j k) = _
  unfold iblk; rw [View.read_apply]
  obtain ⟨h0, h1⟩ := start14 t
  refine congrArg (m ((c : Thread nD τ).loc main_arg8)) (Shape.idx_ext₂ ?_ ?_)
  · show win0_14.index t 0 * 1 + 1 * j.val = j.val; omega
  · show win0_14.index t 1 * 1024 + 1 * k.val = k.val; omega
theorem blk15 (j : Fin 1) (k : Fin 1024) : (mats m c t).fn (ix2 j k) = (args m c).fn (ix2 j k) := by
  show (iblk m c 15 t : Vec Ideal S1x1024 .f32) (ix2 j k) = _
  unfold iblk; rw [View.read_apply]
  obtain ⟨h0, h1⟩ := start15 t
  refine congrArg (m ((c : Thread nD τ).loc main_arg9)) (Shape.idx_ext₂ ?_ ?_)
  · show win0_15.index t 0 * 1 + 1 * j.val = j.val; omega
  · show win0_15.index t 1 * 1024 + 1 * k.val = k.val; omega

theorem weights_eq : (mats m c t).at = (args m c).weights := by
  unfold Block.Mats.at Cert.Tail.Args.weights
  congr 1
  · funext j k; exact blk11 m c t j k
  · funext j k; exact blk12 m c t j k
  · funext j k; exact blk13 m c t j k
  · funext k; exact blk14 m c t 0 k
  · funext k; exact blk15 m c t 0 k

end Cert.Kernel8Ideal.Whole

end
-- ==== Proof.TailPieces.lean ====
/- What the tail's body stores at a point: the block's operations on the rows that the point reads. -/
module

public import proofs.«01_k».proof.Proof.TailRun
public import proofs.«01_k».proof.Proof.TailRows

@[expose] public section

set_option maxRecDepth 16384

noncomputable section

namespace Cert.Kernel8Ideal.Whole

open Cert.Kernel8Ideal Cert.Kernel8Ideal.Gen
open Idealize.ShloMosaic Idealize.ShloMosaic.TcCoe Idealize.ShloMosaic.Tactic Idealize.SL.Sem
open Idealize.SL Idealize.SL.RA Idealize.SL.BI
open scoped Idealize.SL.BI
open Idealize.SL.BI.BIBase Idealize.SL.BI.Laws Idealize.SL.ProofMode

variable {F : FTy → Type} [FloatOps F]
variable (m : (ℓ : Loc nD τ sig) → Buf (Elt F) ℓ) (c : Dev nD) (t : Fin cfg0.N)

local notation "𝕄" => MT nD τ sig Unit (Elt F) ℕ (UR sig nD τ) ℕ

theorem zeros : (![0, 0] : Fin 2 → Nat) = fun _ => 0 := funext fun a => by fin_cases a <;> rfl

/-- The body at the first point, on the point's buffers and blocks. -/
def first (h : t.val % 32 = 0) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6
    t) (hs0_6 t) (ms0_7 t) (hs0_7 t) (ms0_8 t) (hs0_8 t) (ms0_9 t) (hs0_9 t) (ms0_10 t) (hs0_10 t) (ms0_11 t) (hs0_11 t) (ms0_12
    t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t)
    (hs0_23 t) (ms0_24 t) (hs0_24 t) (ms0_25 t) (hs0_25 t) (ms0_26 t) (hs0_26 t) (ms0_27 t) (hs0_27 t) ((hcond0_0 t).mpr h) (iblk
    m c 0 t) (iblk m c 1 t) (X0_2 m c t) (iblk m c 3 t) (iblk m c 4 t) (iblk m c 5 t) (iblk m c 6 t) (iblk m c 7 t) (iblk m c 8 t)
    (iblk m c 9 t) (iblk m c 10 t) (iblk m c 11 t) (iblk m c 12 t) (iblk m c 13 t) (iblk m c 14 t) (iblk m c 15 t)

/-- The body at a later point, where the sums so far are `s`. -/
def later (h : ¬t.val % 32 = 0) (s : Vec F S8x1024 .f32) :=
  runLater (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6
    t) (hs0_6 t) (ms0_7 t) (hs0_7 t) (ms0_8 t) (hs0_8 t) (ms0_9 t) (hs0_9 t) (ms0_10 t) (hs0_10 t) (ms0_11 t) (hs0_11 t) (ms0_12
    t) (hs0_12 t) (ms0_13 t) (hs0_13 t) (ms0_14 t) (hs0_14 t) (ms0_15 t) (hs0_15 t) (ms0_16 t) (hs0_16 t) (ms0_17 t) (hs0_17 t)
    (ms0_18 t) (hs0_18 t) (ms0_19 t) (hs0_19 t) (ms0_20 t) (hs0_20 t) (ms0_21 t) (hs0_21 t) (ms0_22 t) (hs0_22 t) (ms0_23 t)
    (hs0_23 t) (ms0_24 t) (hs0_24 t) (ms0_25 t) (hs0_25 t) (ms0_26 t) (hs0_26 t) (ms0_27 t) (hs0_27 t) (fun h0 => h ((hcond0_0
    t).mp h0)) (iblk m c 0 t) (iblk m c 1 t) (X0_2 m c t) (iblk m c 3 t) (iblk m c 4 t) (iblk m c 5 t) (iblk m c 6 t) (iblk m c 7
    t) (iblk m c 8 t) (iblk m c 9 t) (iblk m c 10 t) (iblk m c 11 t) (iblk m c 12 t) (iblk m c 13 t) (iblk m c 14 t) (iblk m c 15
    t) s

/-! ## Every output's buffer is stored whole -/

theorem first16 (h : t.val % 32 = 0) : ∀ y : S256x1024.Idx, ∃ p ∈ (first m c t h).1, y ∈ p.1.set :=
  fun y => View.cover_of_tiledL (first m c t h).1 S256x1024.size (by sl_kernel_rfl) y
theorem first17 (h : t.val % 32 = 0) : ∀ y : S256x1024.Idx, ∃ p ∈ (first m c t h).2.1, y ∈ p.1.set :=
  fun y => View.cover_of_tiledL (first m c t h).2.1 S256x1024.size (by sl_kernel_rfl) y
theorem first18 (h : t.val % 32 = 0) : ∀ y : S256x1024.Idx, ∃ p ∈ (first m c t h).2.2.1, y ∈ p.1.set :=
  fun y => View.cover_of_tiledL (first m c t h).2.2.1 S256x1024.size (by sl_kernel_rfl) y
theorem first19 (h : t.val % 32 = 0) : ∀ y : S256x1024.Idx, ∃ p ∈ (first m c t h).2.2.2.1, y ∈ p.1.set :=
  fun y => View.cover_of_tiledL (first m c t h).2.2.2.1 S256x1024.size (by sl_kernel_rfl) y
theorem first20 (h : t.val % 32 = 0) : ∀ y : S256x3072.Idx, ∃ p ∈ (first m c t h).2.2.2.2.1, y ∈ p.1.set :=
  fun y => View.cover_of_tiledL (first m c t h).2.2.2.2.1 S256x1024.size (by sl_kernel_rfl) y
theorem first21 (h : t.val % 32 = 0) : ∀ y : S256x1024.Idx, ∃ p ∈ (first m c t h).2.2.2.2.2.1, y ∈ p.1.set :=
  fun y => View.cover_of_tiledL (first m c t h).2.2.2.2.2.1 S256x1024.size (by sl_kernel_rfl) y
theorem first22 (h : t.val % 32 = 0) : ∀ y : S256x1024.Idx, ∃ p ∈ (first m c t h).2.2.2.2.2.2.1, y ∈ p.1.set :=
  fun y => View.cover_of_tiledL (first m c t h).2.2.2.2.2.2.1 S256x1024.size (by sl_kernel_rfl) y
theorem first23 (h : t.val % 32 = 0) : ∀ y : S256x1024.Idx, ∃ p ∈ (first m c t h).2.2.2.2.2.2.2.1, y ∈ p.1.set :=
  fun y => View.cover_of_tiledL (first m c t h).2.2.2.2.2.2.2.1 S256x1024.size (by sl_kernel_rfl) y
theorem first24 (h : t.val % 32 = 0) : ∀ y : S256x1024.Idx, ∃ p ∈ (first m c t h).2.2.2.2.2.2.2.2.1, y ∈ p.1.set :=
  fun y => View.cover_of_tiledL (first m c t h).2.2.2.2.2.2.2.2.1 S256x1024.size (by sl_kernel_rfl) y
theorem first25 (h : t.val % 32 = 0) : ∀ y : S256x1024.Idx, ∃ p ∈ (first m c t h).2.2.2.2.2.2.2.2.2.1, y ∈ p.1.set :=
  fun y => View.cover_of_tiledL (first m c t h).2.2.2.2.2.2.2.2.2.1 S256x1024.size (by sl_kernel_rfl) y
theorem first26 (h : t.val % 32 = 0) : ∀ y : S256x1024.Idx, ∃ p ∈ (first m c t h).2.2.2.2.2.2.2.2.2.2.1, y ∈ p.1.set :=
  fun y => View.cover_of_tiledL (first m c t h).2.2.2.2.2.2.2.2.2.2.1 S256x1024.size (by sl_kernel_rfl) y
theorem first27 (h : t.val % 32 = 0) : ∀ y : S8x1024.Idx, ∃ p ∈ (first m c t h).2.2.2.2.2.2.2.2.2.2.2.1, y ∈ p.1.set :=
  fun y => View.cover_of_tiledL (first m c t h).2.2.2.2.2.2.2.2.2.2.2.1 S8x1024.size (by sl_kernel_rfl) y

theorem later16 (h : ¬t.val % 32 = 0) (s : Vec F S8x1024 .f32) : ∀ y : S256x1024.Idx, ∃ p ∈ (later m c t h s).1, y ∈ p.1.set :=
  fun y => View.cover_of_tiledL (later m c t h s).1 S256x1024.size (by sl_kernel_rfl) y
theorem later17 (h : ¬t.val % 32 = 0) (s : Vec F S8x1024 .f32) : ∀ y : S256x1024.Idx, ∃ p ∈ (later m c t h s).2.1, y ∈ p.1.set :=
  fun y => View.cover_of_tiledL (later m c t h s).2.1 S256x1024.size (by sl_kernel_rfl) y
theorem later18 (h : ¬t.val % 32 = 0) (s : Vec F S8x1024 .f32) : ∀ y : S256x1024.Idx, ∃ p ∈ (later m c t h s).2.2.1, y ∈ p.1.set :=
  fun y => View.cover_of_tiledL (later m c t h s).2.2.1 S256x1024.size (by sl_kernel_rfl) y
theorem later19 (h : ¬t.val % 32 = 0) (s : Vec F S8x1024 .f32) : ∀ y : S256x1024.Idx, ∃ p ∈ (later m c t h s).2.2.2.1, y ∈ p.1.set :=
  fun y => View.cover_of_tiledL (later m c t h s).2.2.2.1 S256x1024.size (by sl_kernel_rfl) y
theorem later20 (h : ¬t.val % 32 = 0) (s : Vec F S8x1024 .f32) : ∀ y : S256x3072.Idx, ∃ p ∈ (later m c t h s).2.2.2.2.1, y ∈ p.1.set :=
  fun y => View.cover_of_tiledL (later m c t h s).2.2.2.2.1 S256x1024.size (by sl_kernel_rfl) y
theorem later21 (h : ¬t.val % 32 = 0) (s : Vec F S8x1024 .f32) : ∀ y : S256x1024.Idx, ∃ p ∈ (later m c t h s).2.2.2.2.2.1, y ∈ p.1.set :=
  fun y => View.cover_of_tiledL (later m c t h s).2.2.2.2.2.1 S256x1024.size (by sl_kernel_rfl) y
theorem later22 (h : ¬t.val % 32 = 0) (s : Vec F S8x1024 .f32) : ∀ y : S256x1024.Idx, ∃ p ∈ (later m c t h s).2.2.2.2.2.2.1, y ∈ p.1.set :=
  fun y => View.cover_of_tiledL (later m c t h s).2.2.2.2.2.2.1 S256x1024.size (by sl_kernel_rfl) y
theorem later23 (h : ¬t.val % 32 = 0) (s : Vec F S8x1024 .f32) : ∀ y : S256x1024.Idx, ∃ p ∈ (later m c t h s).2.2.2.2.2.2.2.1, y ∈ p.1.set :=
  fun y => View.cover_of_tiledL (later m c t h s).2.2.2.2.2.2.2.1 S256x1024.size (by sl_kernel_rfl) y
theorem later24 (h : ¬t.val % 32 = 0) (s : Vec F S8x1024 .f32) : ∀ y : S256x1024.Idx, ∃ p ∈ (later m c t h s).2.2.2.2.2.2.2.2.1, y ∈ p.1.set :=
  fun y => View.cover_of_tiledL (later m c t h s).2.2.2.2.2.2.2.2.1 S256x1024.size (by sl_kernel_rfl) y
theorem later25 (h : ¬t.val % 32 = 0) (s : Vec F S8x1024 .f32) : ∀ y : S256x1024.Idx, ∃ p ∈ (later m c t h s).2.2.2.2.2.2.2.2.2.1, y ∈ p.1.set :=
  fun y => View.cover_of_tiledL (later m c t h s).2.2.2.2.2.2.2.2.2.1 S256x1024.size (by sl_kernel_rfl) y
theorem later26 (h : ¬t.val % 32 = 0) (s : Vec F S8x1024 .f32) : ∀ y : S256x1024.Idx, ∃ p ∈ (later m c t h s).2.2.2.2.2.2.2.2.2.2.1, y ∈ p.1.set :=
  fun y => View.cover_of_tiledL (later m c t h s).2.2.2.2.2.2.2.2.2.2.1 S256x1024.size (by sl_kernel_rfl) y
theorem later27 (h : ¬t.val % 32 = 0) (s : Vec F S8x1024 .f32) : ∀ y : S8x1024.Idx, ∃ p ∈ (later m c t h s).2.2.2.2.2.2.2.2.2.2.2.1, y ∈ p.1.set :=
  fun y => View.cover_of_tiledL (later m c t h s).2.2.2.2.2.2.2.2.2.2.2.1 S8x1024.size (by sl_kernel_rfl) y

/-! ## What is stored -/

set_option maxHeartbeats 4000000 in
/-- What the covered results' buffers hold after the first point. -/
theorem first_values (h : t.val % 32 = 0) :
    View.canon (first m c t h).1 = Block.dx (mats m c t) (rows m c t)
    ∧ View.canon (first m c t h).2.2.1 = Block.doa (mats m c t) (rows m c t)
    ∧ View.canon (first m c t h).2.2.2.2.2.1 = Block.gh (mats m c t) (rows m c t)
    ∧ View.canon (first m c t h).2.2.2.2.2.2.1 = Block.ga (rows m c t)
    ∧ View.canon (first m c t h).2.2.2.2.2.2.2.1 = Block.mg (mats m c t) (rows m c t)
    ∧ View.canon (first m c t h).2.2.2.2.2.2.2.2.1 = Block.dyh (mats m c t) (rows m c t)
    ∧ View.canon (first m c t h).2.2.2.2.2.2.2.2.2.1 = Block.dya (mats m c t) (rows m c t)
    ∧ View.canon (first m c t h).2.2.2.2.2.2.2.2.2.2.1 = Block.round (Block.dx (mats m c t) (rows m c t)) := by
  refine ⟨?_, ?_, ?_, ?_, ?_, ?_, ?_, ?_⟩ <;> unfold first runFirst <;> sl_unfold_words <;>
    rw [View.canon_unit_zero (S := S256x1024) zeros] <;>
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread,
      View.ld_unit_zero (S := S256x1024) zeros, View.ld_unit_zero (S := S256x512) zeros, View.ld_unit_zero (S := S1024x1024) zeros,
      View.ld_unit_zero (S := S1x1024) zeros, shapeCast_self] <;> rfl

set_option maxHeartbeats 4000000 in
/-- What the covered results' buffers hold after a later one: the same. -/
theorem later_values (h : ¬t.val % 32 = 0) (s : Vec F S8x1024 .f32) :
    View.canon (later m c t h s).1 = Block.dx (mats m c t) (rows m c t)
    ∧ View.canon (later m c t h s).2.2.1 = Block.doa (mats m c t) (rows m c t)
    ∧ View.canon (later m c t h s).2.2.2.2.2.1 = Block.gh (mats m c t) (rows m c t)
    ∧ View.canon (later m c t h s).2.2.2.2.2.2.1 = Block.ga (rows m c t)
    ∧ View.canon (later m c t h s).2.2.2.2.2.2.2.1 = Block.mg (mats m c t) (rows m c t)
    ∧ View.canon (later m c t h s).2.2.2.2.2.2.2.2.1 = Block.dyh (mats m c t) (rows m c t)
    ∧ View.canon (later m c t h s).2.2.2.2.2.2.2.2.2.1 = Block.dya (mats m c t) (rows m c t)
    ∧ View.canon (later m c t h s).2.2.2.2.2.2.2.2.2.2.1 = Block.round (Block.dx (mats m c t) (rows m c t)) := by
  refine ⟨?_, ?_, ?_, ?_, ?_, ?_, ?_, ?_⟩ <;> unfold later runLater <;> sl_unfold_words <;>
    rw [View.canon_unit_zero (S := S256x1024) zeros] <;>
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread,
      View.ld_unit_zero (S := S256x1024) zeros, View.ld_unit_zero (S := S256x512) zeros, View.ld_unit_zero (S := S1024x1024) zeros,
      View.ld_unit_zero (S := S1x1024) zeros, shapeCast_self] <;> rfl

end Cert.Kernel8Ideal.Whole

end
-- ==== Proof.TailFrame.lean ====
/- The tail over the whole grid: what its windows hold after each point, and the frame. -/
module

public import proofs.«01_k».proof.Proof.TailPieces
public import Idealize.ShloMosaic.Lib.Claim

@[expose] public section

set_option maxRecDepth 16384

noncomputable section

namespace Cert.Kernel8Ideal.Whole

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the buffers of the results without a claim hold, and the running sums'. -/
structure Rest (F : FTy → Type) where
  dor : Vec F S256x1024 .f32
  dhg : Vec F S256x1024 .bf16
  dagm : Vec F S256x3072 .bf16
  sums : Vec F S8x1024 .f32

def restFirst (c : Dev nD) (t : Fin cfg0.N) (h : t.val % 32 = 0) : Rest F :=
  ⟨View.canon (first m c t h).2.1, View.canon (first m c t h).2.2.2.1, View.canon (first m c t h).2.2.2.2.1, View.canon (first m c t h).2.2.2.2.2.2.2.2.2.2.2.1⟩
def restLater (c : Dev nD) (t : Fin cfg0.N) (h : ¬t.val % 32 = 0) (s : Vec F S8x1024 .f32) : Rest F :=
  ⟨View.canon (later m c t h s).2.1, View.canon (later m c t h s).2.2.2.1, View.canon (later m c t h s).2.2.2.2.1, View.canon (later m c t h s).2.2.2.2.2.2.2.2.2.2.2.1⟩

theorem restFirst_eq (c : Dev nD) (t : Fin cfg0.N) (h : t.val % 32 = 0) :
    View.canon (first m c t h).2.1 = (restFirst m c t h).dor
    ∧ View.canon (first m c t h).2.2.2.1 = (restFirst m c t h).dhg
    ∧ View.canon (first m c t h).2.2.2.2.1 = (restFirst m c t h).dagm
    ∧ View.canon (first m c t h).2.2.2.2.2.2.2.2.2.2.2.1 = (restFirst m c t h).sums := by
  refine ⟨?_, ?_, ?_, ?_⟩ <;> unfold restFirst <;> dsimp only
theorem restLater_eq (c : Dev nD) (t : Fin cfg0.N) (h : ¬t.val % 32 = 0) (s : Vec F S8x1024 .f32) :
    View.canon (later m c t h s).2.1 = (restLater m c t h s).dor
    ∧ View.canon (later m c t h s).2.2.2.1 = (restLater m c t h s).dhg
    ∧ View.canon (later m c t h s).2.2.2.2.1 = (restLater m c t h s).dagm
    ∧ View.canon (later m c t h s).2.2.2.2.2.2.2.2.2.2.2.1 = (restLater m c t h s).sums := by
  refine ⟨?_, ?_, ?_, ?_⟩ <;> unfold restLater <;> dsimp only

/-- What they hold after point `n`. -/
def rest (c : Dev nD) : (n : ℕ) → n < cfg0.N → Rest F
  | 0, hn => restFirst m c ⟨0, hn⟩ (Nat.zero_mod _)
  | n + 1, hn =>
    if h : (n + 1) % 32 = 0 then restFirst m c ⟨n + 1, hn⟩ h
    else restLater m c ⟨n + 1, hn⟩ h (rest c n (Nat.lt_of_succ_lt hn)).sums

/-- The point before. -/
abbrev before (n : ℕ) (hn : n < cfg0.N) : n - 1 < cfg0.N := Nat.lt_of_le_of_lt (Nat.sub_le _ _) hn

theorem rest_first (c : Dev nD) (t : Fin cfg0.N) (h : t.val % 32 = 0) : rest m c t.val t.isLt = restFirst m c t h := by
  obtain ⟨n, hn⟩ := t
  cases n with
  | zero => rfl
  | succ n => exact dif_pos h

theorem rest_later (c : Dev nD) (t : Fin cfg0.N) (h : ¬t.val % 32 = 0) :
    rest m c t.val t.isLt = restLater m c t h (rest m c (t.val - 1) (before t.val t.isLt)).sums := by
  obtain ⟨n, hn⟩ := t
  cases n with
  | zero => exact absurd (Nat.zero_mod _) h
  | succ n => exact dif_neg h

/-- What the windows hold, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => Block.dx (mats m c t) (rows m c t)
    | ⟨17, _⟩ => (rest m c t.val t.isLt).dor
    | ⟨18, _⟩ => Block.doa (mats m c t) (rows m c t)
    | ⟨19, _⟩ => (rest m c t.val t.isLt).dhg
    | ⟨20, _⟩ => (rest m c t.val t.isLt).dagm
    | ⟨21, _⟩ => Block.gh (mats m c t) (rows m c t)
    | ⟨22, _⟩ => Block.ga (rows m c t)
    | ⟨23, _⟩ => Block.mg (mats m c t) (rows m c t)
    | ⟨24, _⟩ => Block.dyh (mats m c t) (rows m c t)
    | ⟨25, _⟩ => Block.dya (mats m c t) (rows m c t)
    | ⟨26, _⟩ => Block.round (Block.dx (mats m c t) (rows m c t))
    | ⟨27, _⟩ => (rest m c t.val t.isLt).sums
    | ⟨_ + 28, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = Block.dx (mats m c t) (rows m c t) := by dsimp only [dats]
theorem after17 (c : Dev nD) (t : Fin cfg0.N) : (dats m 0 c).after 17 t = (rest m c t.val t.isLt).dor := by dsimp only [dats]
theorem after18 (c : Dev nD) (t : Fin cfg0.N) : (dats m 0 c).after 18 t = Block.doa (mats m c t) (rows m c t) := by dsimp only [dats]
theorem after19 (c : Dev nD) (t : Fin cfg0.N) : (dats m 0 c).after 19 t = (rest m c t.val t.isLt).dhg := by dsimp only [dats]
theorem after20 (c : Dev nD) (t : Fin cfg0.N) : (dats m 0 c).after 20 t = (rest m c t.val t.isLt).dagm := by dsimp only [dats]
theorem after21 (c : Dev nD) (t : Fin cfg0.N) : (dats m 0 c).after 21 t = Block.gh (mats m c t) (rows m c t) := by dsimp only [dats]
theorem after22 (c : Dev nD) (t : Fin cfg0.N) : (dats m 0 c).after 22 t = Block.ga (rows m c t) := by dsimp only [dats]
theorem after23 (c : Dev nD) (t : Fin cfg0.N) : (dats m 0 c).after 23 t = Block.mg (mats m c t) (rows m c t) := by dsimp only [dats]
theorem after24 (c : Dev nD) (t : Fin cfg0.N) : (dats m 0 c).after 24 t = Block.dyh (mats m c t) (rows m c t) := by dsimp only [dats]
theorem after25 (c : Dev nD) (t : Fin cfg0.N) : (dats m 0 c).after 25 t = Block.dya (mats m c t) (rows m c t) := by dsimp only [dats]
theorem after26 (c : Dev nD) (t : Fin cfg0.N) : (dats m 0 c).after 26 t = Block.round (Block.dx (mats m c t) (rows m c t)) := by dsimp only [dats]
theorem after27 (c : Dev nD) (t : Fin cfg0.N) : (dats m 0 c).after 27 t = (rest m c t.val t.isLt).sums := by dsimp only [dats]

/-! Each input's buffer holds its block. -/

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d

/-- A later point finds the sums that the point before left. -/
theorem before_sums (c : Dev nD) (t : Fin cfg0.N) (h : ¬t.val % 32 = 0) (d) :
    (dats m 0 c).before 27 t d = (rest m c (t.val - 1) (before t.val t.isLt)).sums := by
  have hN : t.val < 32 := lt_of_lt_of_eq t.isLt N_0
  rw [Dat.before_out_kept _ 27 rfl t (by omega) (Bool.eq_false_iff.mpr fun h => by have := (flush0_27 _).mp h; dsimp only at this; omega)
    (fun _ => rfl) (fun _ _ => rfl)]
  dsimp only [dats]

/-- A buffer that its pieces cover holds what they hold. -/
theorem stored {c : Dev nD} {S : Shape} {e : EltTy} (M : Memref sig .tc .vmem S e) (f) (L : List (View.Piece (Elt F) S e))
    (hL : ∀ y, ∃ p ∈ L, y ∈ p.1.set) (v : Vec F S e) (h : View.canon L = v) :
    (M.view.loc (c : Thread nD τ) ↦[M.view.set]{fullShare} M.view.writes (Elt F) f L : sProp 𝕄) ⊢ owns (c : Thread nD τ) M fullShare v := by
  iintro H
  unfold owns; iexists _; isplitr
  swap; · iexact H
  ipureintro; exact (View.read_writes_eq_canon _ _ _ hL).trans h

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

set_option maxHeartbeats 8000000 in
/-- The body at the first point. -/
theorem sound_first (c : Dev nD) (t : Fin cfg0.N) (h : t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, rest_first m c t h]
  obtain ⟨v16, v18, v21, v22, v23, v24, v25, v26⟩ := first_values m c t h
  obtain ⟨v17, v19, v20, v27⟩ := restFirst_eq m c t h
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((first m c t h).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (stored (ms0_16 t) _ _ (first16 m c t h) _ v16); iexact H16
  isplitl [H17]; · iapply (stored (ms0_17 t) _ _ (first17 m c t h) _ v17); iexact H17
  isplitl [H18]; · iapply (stored (ms0_18 t) _ _ (first18 m c t h) _ v18); iexact H18
  isplitl [H19]; · iapply (stored (ms0_19 t) _ _ (first19 m c t h) _ v19); iexact H19
  isplitl [H20]; · iapply (stored (ms0_20 t) _ _ (first20 m c t h) _ v20); iexact H20
  isplitl [H21]; · iapply (stored (ms0_21 t) _ _ (first21 m c t h) _ v21); iexact H21
  isplitl [H22]; · iapply (stored (ms0_22 t) _ _ (first22 m c t h) _ v22); iexact H22
  isplitl [H23]; · iapply (stored (ms0_23 t) _ _ (first23 m c t h) _ v23); iexact H23
  isplitl [H24]; · iapply (stored (ms0_24 t) _ _ (first24 m c t h) _ v24); iexact H24
  isplitl [H25]; · iapply (stored (ms0_25 t) _ _ (first25 m c t h) _ v25); iexact H25
  isplitl [H26]; · iapply (stored (ms0_26 t) _ _ (first26 m c t h) _ v26); iexact H26
  iapply (stored (ms0_27 t) _ _ (first27 m c t h) _ v27); iexact H27

set_option maxHeartbeats 8000000 in
/-- The body at a later point. -/
theorem sound_later (c : Dev nD) (t : Fin cfg0.N) (h : ¬t.val % 32 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before_sums m c t h]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, rest_later m c t h]
  obtain ⟨v16, v18, v21, v22, v23, v24, v25, v26⟩ := later_values m c t h (rest m c (t.val - 1) (before t.val t.isLt)).sums
  obtain ⟨v17, v19, v20, v27⟩ := restLater_eq m c t h (rest m c (t.val - 1) (before t.val t.isLt)).sums
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((later m c t h (rest m c (t.val - 1) (before t.val t.isLt)).sums).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexact H27
  iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (stored (ms0_16 t) _ _ (later16 m c t h (rest m c (t.val - 1) (before t.val t.isLt)).sums) _ v16); iexact H16
  isplitl [H17]; · iapply (stored (ms0_17 t) _ _ (later17 m c t h (rest m c (t.val - 1) (before t.val t.isLt)).sums) _ v17); iexact H17
  isplitl [H18]; · iapply (stored (ms0_18 t) _ _ (later18 m c t h (rest m c (t.val - 1) (before t.val t.isLt)).sums) _ v18); iexact H18
  isplitl [H19]; · iapply (stored (ms0_19 t) _ _ (later19 m c t h (rest m c (t.val - 1) (before t.val t.isLt)).sums) _ v19); iexact H19
  isplitl [H20]; · iapply (stored (ms0_20 t) _ _ (later20 m c t h (rest m c (t.val - 1) (before t.val t.isLt)).sums) _ v20); iexact H20
  isplitl [H21]; · iapply (stored (ms0_21 t) _ _ (later21 m c t h (rest m c (t.val - 1) (before t.val t.isLt)).sums) _ v21); iexact H21
  isplitl [H22]; · iapply (stored (ms0_22 t) _ _ (later22 m c t h (rest m c (t.val - 1) (before t.val t.isLt)).sums) _ v22); iexact H22
  isplitl [H23]; · iapply (stored (ms0_23 t) _ _ (later23 m c t h (rest m c (t.val - 1) (before t.val t.isLt)).sums) _ v23); iexact H23
  isplitl [H24]; · iapply (stored (ms0_24 t) _ _ (later24 m c t h (rest m c (t.val - 1) (before t.val t.isLt)).sums) _ v24); iexact H24
  isplitl [H25]; · iapply (stored (ms0_25 t) _ _ (later25 m c t h (rest m c (t.val - 1) (before t.val t.isLt)).sums) _ v25); iexact H25
  isplitl [H26]; · iapply (stored (ms0_26 t) _ _ (later26 m c t h (rest m c (t.val - 1) (before t.val t.isLt)).sums) _ v26); iexact H26
  iapply (stored (ms0_27 t) _ _ (later27 m c t h (rest m c (t.val - 1) (before t.val t.isLt)).sums) _ v27); iexact H27

theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    bodyPre m c t ⊢ wp frame (wpE (defs₀ (F := F)) Variants.none c none) Set.univ (bodyAt0 t) (fun _ => bodyPost m c t) :=
  if h : t.val % 32 = 0 then sound_first m c t h else sound_later m c t h

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch runs, and ends with every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: the arguments end as they began and every counter ends at zero. -/
theorem tail_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel8Ideal.Whole

end
-- ==== Proof.Frames.lean ====
/- The frames of the calls and of their ideal programs. -/
module

public import proofs.«01_k».proof.Defs
public import proofs.«01_k».proof.Proof.Gen.Kernel
public import proofs.«01_k».proof.Proof.Gen.KernelIdeal.Value
public import proofs.«01_k».proof.Proof.Gen.Kernel3
public import proofs.«01_k».proof.Proof.Gen.Kernel3Ideal.Value
public import proofs.«01_k».proof.Proof.Gen.Kernel4
public import proofs.«01_k».proof.Proof.Gen.Kernel4Ideal.Frame
public import proofs.«01_k».proof.Proof.Gen.Kernel5
public import proofs.«01_k».proof.Proof.Gen.Kernel5Ideal.Frame
public import proofs.«01_k».proof.Proof.Gen.Kernel6
public import proofs.«01_k».proof.Proof.Gen.Kernel6Ideal.Frame
public import proofs.«01_k».proof.Proof.Gen.Kernel7
public import proofs.«01_k».proof.Proof.Forward
public import proofs.«01_k».proof.Proof.Gen.Kernel8
public import proofs.«01_k».proof.Proof.TailFrame
public import Idealize.ShloMosaic.Lib.Tactic

@[expose] public section

set_option maxRecDepth 65536

noncomputable section

namespace Cert.Proof

open Idealize.ShloMosaic Idealize.ShloMosaic.Tactic Idealize.SL.Sem

/-- `Kernel` and `KernelIdeal` have one text, so one table of kernel bodies. -/
theorem bodies : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- … and one table with the pipelines'. -/
theorem tables : Cert.Kernel.defs (F := Bits) = Cert.KernelIdeal.defs (F := Bits) :=
  congrArg (Pipeline.defs (Cert.KernelIdeal.pcfgs (F := Bits))) bodies

/-- The call as printed runs, leaves its arguments and ends with every counter at zero: `KernelIdeal`'s run, over bits. -/
theorem frame_kernel : Cert.quiescent_Kernel := fun m ρ _ => by
  rw [tables]
  exact Cert.KernelIdeal.Gen.frame (F := Bits) m ρ

/-- So does its ideal program. -/
theorem frame_ideal : Cert.quiescent_KernelIdeal := fun m ρ _ => Cert.KernelIdeal.Gen.frame m ρ

/-- `Kernel3` and `Kernel3Ideal` have one text, so one table of kernel bodies. -/
theorem bodies3 : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) => rfl

/-- … and one table with the pipelines'. -/
theorem tables3 : Cert.Kernel3.defs (F := Bits) = Cert.Kernel3Ideal.defs (F := Bits) :=
  congrArg (Pipeline.defs (Cert.Kernel3Ideal.pcfgs (F := Bits))) bodies3

/-- The call as printed runs, leaves its arguments and ends with every counter at zero: `Kernel3Ideal`'s run, over bits. -/
theorem frame_kernel3 : Cert.quiescent_Kernel3 := fun m ρ _ => by
  rw [tables3]
  exact Cert.Kernel3Ideal.Gen.frame (F := Bits) m ρ

/-- So does its ideal program. -/
theorem frame_ideal3 : Cert.quiescent_Kernel3Ideal := fun m ρ _ => Cert.Kernel3Ideal.Gen.frame m ρ

/-- `Kernel4` and `Kernel4Ideal` have one text, so one table of kernel bodies. -/
theorem bodies4 : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (t, s) => rfl

/-- … and one table with the pipelines'. -/
theorem tables4 : Cert.Kernel4.defs (F := Bits) = Cert.Kernel4Ideal.defs (F := Bits) :=
  congrArg (Pipeline.defs (Cert.Kernel4Ideal.pcfgs (F := Bits))) bodies4

/-- The call as printed runs, leaves its arguments and ends with every counter at zero: `Kernel4Ideal`'s run, over bits. -/
theorem frame_kernel4 : Cert.quiescent_Kernel4 := fun m ρ _ => by
  rw [tables4]
  exact Cert.Kernel4Ideal.Gen.frame (F := Bits) m ρ

/-- So does its ideal program. -/
theorem frame_ideal4 : Cert.quiescent_Kernel4Ideal := fun m ρ _ => Cert.Kernel4Ideal.Gen.frame m ρ

/-- `Kernel5` and `Kernel5Ideal` have one text, so one table of kernel bodies. -/
theorem bodies5 : Cert.Kernel5.defs₀ (F := Bits) = Cert.Kernel5Ideal.defs₀ (F := Bits) := by
  unfold Cert.Kernel5.defs₀ Cert.Kernel5Ideal.defs₀
  refine congrArg Defs.onTc ?_
  funext l a
  match l, a with
  | 0, (t, s) => rfl

/-- … and one table with the pipelines'. -/
theorem tables5 : Cert.Kernel5.defs (F := Bits) = Cert.Kernel5Ideal.defs (F := Bits) :=
  congrArg (Pipeline.defs (Cert.Kernel5Ideal.pcfgs (F := Bits))) bodies5

/-- The call as printed runs, leaves its arguments and ends with every counter at zero: `Kernel5Ideal`'s run, over bits. -/
theorem frame_kernel5 : Cert.quiescent_Kernel5 := fun m ρ _ => by
  rw [tables5]
  exact Cert.Kernel5Ideal.Gen.frame (F := Bits) m ρ

/-- So does its ideal program. -/
theorem frame_ideal5 : Cert.quiescent_Kernel5Ideal := fun m ρ _ => Cert.Kernel5Ideal.Gen.frame m ρ

/-- `Kernel6` and `Kernel6Ideal` have one text, so one table of kernel bodies. -/
theorem bodies6 : Cert.Kernel6.defs₀ (F := Bits) = Cert.Kernel6Ideal.defs₀ (F := Bits) := by
  unfold Cert.Kernel6.defs₀ Cert.Kernel6Ideal.defs₀
  refine congrArg Defs.onTc ?_
  funext l a
  match l, a with
  | 0, (t, s) => rfl

/-- … and one table with the pipelines'. -/
theorem tables6 : Cert.Kernel6.defs (F := Bits) = Cert.Kernel6Ideal.defs (F := Bits) :=
  congrArg (Pipeline.defs (Cert.Kernel6Ideal.pcfgs (F := Bits))) bodies6

/-- The call as printed runs, leaves its arguments and ends with every counter at zero: `Kernel6Ideal`'s run, over bits. -/
theorem frame_kernel6 : Cert.quiescent_Kernel6 := fun m ρ _ => by
  rw [tables6]
  exact Cert.Kernel6Ideal.Gen.frame (F := Bits) m ρ

/-- So does its ideal program. -/
theorem frame_ideal6 : Cert.quiescent_Kernel6Ideal := fun m ρ _ => Cert.Kernel6Ideal.Gen.frame m ρ

/-- `Kernel7` and `Kernel7Ideal` have one text, so one table of kernel bodies. -/
theorem bodies7 : Cert.Kernel7.defs₀ (F := Bits) = Cert.Kernel7Ideal.defs₀ (F := Bits) := by
  unfold Cert.Kernel7.defs₀ Cert.Kernel7Ideal.defs₀
  refine congrArg Defs.onTc ?_
  funext l a
  match l, a with
  | 0, (t, s) => rfl

/-- … and one table with the pipelines'. -/
theorem tables7 : Cert.Kernel7.defs (F := Bits) = Cert.Kernel7Ideal.defs (F := Bits) :=
  congrArg (Pipeline.defs (Cert.Kernel7Ideal.pcfgs (F := Bits))) bodies7

/-- The call as printed runs, leaves its arguments and ends with every counter at zero: `Kernel7Ideal`'s run, over bits. -/
theorem frame_kernel7 : Cert.quiescent_Kernel7 := fun m ρ _ => by
  rw [tables7]
  exact Cert.Kernel7Ideal.Gen.frame (F := Bits) m ρ (Cert.Kernel7Ideal.Forward.ok m)

/-- So does its ideal program. -/
theorem frame_ideal7 : Cert.quiescent_Kernel7Ideal := fun m ρ _ => Cert.Kernel7Ideal.Gen.frame m ρ (Cert.Kernel7Ideal.Forward.ok m)

set_option maxHeartbeats 4000000 in
/-- `Kernel8` and `Kernel8Ideal` have one text, so one table, the kernel body's and the pipelines' rows together. -/
theorem tables8 : Cert.Kernel8.defs (F := Bits) = Cert.Kernel8Ideal.defs (F := Bits) := by sl_kernel_rfl

set_option maxHeartbeats 4000000 in
/-- The call as printed runs, leaves its arguments and ends with every counter at zero: `Kernel8Ideal`'s run, over bits. -/
theorem frame_kernel8 : Cert.quiescent_Kernel8 := fun m ρ _ => by
  rw [tables8]
  exact Cert.Kernel8Ideal.Whole.tail_frame (F := Bits) m ρ

/-- So does its ideal program. -/
theorem frame_ideal8 : Cert.quiescent_Kernel8Ideal := fun m ρ _ => Cert.Kernel8Ideal.Whole.tail_frame m ρ

end Cert.Proof

end
-- ==== Proof.Square.lean ====
/- What the three square products' call leaves: each result is its pair's product over all 8192 rows, added up in sixteen blocks of
   512 rows. -/
module

public import proofs.«01_k».proof.Proof.Sums
public import proofs.«01_k».proof.Proof.Gen.Kernel3Ideal.Value
public import Idealize.ShloMosaic.Lib.Tactic

@[expose] public section

noncomputable section

open Idealize.ShloMosaic Idealize.ShloMosaic.TcCoe Idealize.SL.Sem Idealize.ShloMosaic.ValueIdx
open Idealize.ShloMosaic.Pipeline (Dat)
open scoped BigOperators

namespace Cert.Kernel3Ideal.Square

open Cert.Kernel3Ideal Cert.Kernel3Ideal.Gen Cert.Kernel3Ideal.Value

theorem zeros : (![0, 0] : Fin 2 → Nat) = fun _ => 0 := funext fun a => by fin_cases a <;> rfl

section AnyFloat

variable {F : FTy → Type} [FloatOps F]
variable (m : (ℓ : Loc nD τ sig) → Buf (Elt F) ℓ)

/-- One block's product: both operands contracted along their rows. -/
def blockDot (a b : Vec F S512x1024 .bf16) : FVec F S1024x1024 .f32 :=
  matmul dot_S512x1024_S512x1024_S1024x1024_0_0_1_1_n_n none a b (constant S1024x1024 .f32 0x00000000#32)

/-- The accumulators' first contents. -/
def zero : FVec F S1024x1024 .f32 := broadcast S1024x1024 (Scalar.ofBits .f32 0x00000000#32)

/-- The first point leaves each pair's product of the first block, added to zero. -/
theorem first (c : Dev nD) (t : Fin cfg0.N) (h0 : t.val % 16 = 0) :
    outsAt0 m c t.val t.isLt = (addf zero (blockDot (iblk m c 0 t) (iblk m c 1 t)),
      addf zero (blockDot (iblk m c 2 t) (iblk m c 3 t)), addf zero (blockDot (iblk m c 4 t) (iblk m c 5 t))) := by
  rw [outsAt0_A m c t h0]
  refine Prod.ext ?_ (Prod.ext ?_ ?_) <;> dsimp only
  · unfold out0_A_6
    rw [View.read_writes_eq_canon]; swap; exact fun y => cover0_A_6 ..
    unfold kernelRun0_A
    dsimp only
    sl_unfold_words
    rw [View.canon_cons_unit_zero (S := S1024x1024) zeros, View.readCov_unit_zero (S := S1024x1024) _ zeros]
    unfold k0_pay4 k0_pay1
    simp only [View.readAt_eq_ld, (hs0_0 t).read_unread, (hs0_1 t).read_unread, View.ld_unit_zero (S := S512x1024) zeros,
      shapeCast_self]
    rfl
  · unfold out0_A_7
    rw [View.read_writes_eq_canon]; swap; exact fun y => cover0_A_7 ..
    unfold kernelRun0_A
    dsimp only
    sl_unfold_words
    rw [View.canon_cons_unit_zero (S := S1024x1024) zeros, View.readCov_unit_zero (S := S1024x1024) _ zeros]
    unfold k0_pay5 k0_pay2
    simp only [View.readAt_eq_ld, (hs0_2 t).read_unread, (hs0_3 t).read_unread, View.ld_unit_zero (S := S512x1024) zeros,
      shapeCast_self]
    rfl
  · unfold out0_A_8
    rw [View.read_writes_eq_canon]; swap; exact fun y => cover0_A_8 ..
    unfold kernelRun0_A
    dsimp only
    sl_unfold_words
    rw [View.canon_cons_unit_zero (S := S1024x1024) zeros, View.readCov_unit_zero (S := S1024x1024) _ zeros]
    unfold k0_pay6 k0_pay3
    simp only [View.readAt_eq_ld, (hs0_4 t).read_unread, (hs0_5 t).read_unread, View.ld_unit_zero (S := S512x1024) zeros,
      shapeCast_self]
    rfl

/-- Each later point adds its block's products to what the point before left. -/
theorem later (c : Dev nD) (t : Fin cfg0.N) (h0 : ¬t.val % 16 = 0) :
    outsAt0 m c t.val t.isLt
      = (addf (outsAt0 m c (t.val - 1) (Nat.lt_of_le_of_lt (Nat.sub_le _ _) t.isLt)).1 (blockDot (iblk m c 0 t) (iblk m c 1 t)),
        addf (outsAt0 m c (t.val - 1) (Nat.lt_of_le_of_lt (Nat.sub_le _ _) t.isLt)).2.1 (blockDot (iblk m c 2 t) (iblk m c 3 t)),
        addf (outsAt0 m c (t.val - 1) (Nat.lt_of_le_of_lt (Nat.sub_le _ _) t.isLt)).2.2 (blockDot (iblk m c 4 t) (iblk m c 5 t))) := by
  rw [outsAt0_B m c t h0]
  refine Prod.ext ?_ (Prod.ext ?_ ?_) <;> dsimp only
  · unfold out0_B_6
    rw [View.read_writes_eq_canon]; swap; exact fun y => cover0_B_6 ..
    unfold kernelRun0_B
    dsimp only
    rw [View.canon_unit_zero (S := S1024x1024) zeros]
    unfold k0_pay4
    simp only [View.readAt_eq_ld, (hs0_0 t).read_unread, (hs0_1 t).read_unread, (hs0_6 t).read_unread,
      View.ld_unit_zero (S := S512x1024) zeros, View.ld_unit_zero (S := S1024x1024) zeros, shapeCast_self]
    rfl
  · unfold out0_B_7
    rw [View.read_writes_eq_canon]; swap; exact fun y => cover0_B_7 ..
    unfold kernelRun0_B
    dsimp only
    rw [View.canon_unit_zero (S := S1024x1024) zeros]
    unfold k0_pay5
    simp only [View.readAt_eq_ld, (hs0_2 t).read_unread, (hs0_3 t).read_unread, (hs0_7 t).read_unread,
      View.ld_unit_zero (S := S512x1024) zeros, View.ld_unit_zero (S := S1024x1024) zeros, shapeCast_self]
    rfl
  · unfold out0_B_8
    rw [View.read_writes_eq_canon]; swap; exact fun y => cover0_B_8 ..
    unfold kernelRun0_B
    dsimp only
    rw [View.canon_unit_zero (S := S1024x1024) zeros]
    unfold k0_pay6
    simp only [View.readAt_eq_ld, (hs0_4 t).read_unread, (hs0_5 t).read_unread, (hs0_8 t).read_unread,
      View.ld_unit_zero (S := S512x1024) zeros, View.ld_unit_zero (S := S1024x1024) zeros, shapeCast_self]
    rfl

end AnyFloat

/-! ## At an index, over the extended reals -/

/-- A block's product at an index sums the block's rows. -/
theorem blockDot_apply (a b : Vec Ideal S512x1024 .bf16) (i j : Fin 1024) :
    blockDot a b (ix2 i j) = ∑ k : Fin 512, a (ix2 k i) * b (ix2 k j) := by
  unfold blockDot matmul
  rw [Ideal.matmul_constant_zero_apply, Cert.Sums.contracted _ 512 rfl rfl]
  refine Finset.sum_congr rfl fun k _ => ?_
  congr 2 <;> exact Shape.idx_ext₂ rfl rfl

/-- The accumulators' first contents are zero everywhere. -/
theorem zero_apply (y : S1024x1024.Idx) : (zero : FVec Ideal S1024x1024 .f32) y = 0 := Ideal.ofBits_zero_f32

/-- A pair's whole product, as the contents of a result. -/
def whole (X Y : Vec Ideal S8192x1024 .bf16) : Vec Ideal S1024x1024 .f32 :=
  fun y => ∑ k : Fin 8192, X (ix2 k (y 0)) * Y (ix2 k (y 1))

/-- A sequence of accumulators that starts at the first block's product and adds each later one ends at the whole product. -/
theorem total (f : Fin 16 → FVec Ideal S1024x1024 .f32) (X Y : Vec Ideal S8192x1024 .bf16)
    (x y : Fin 16 → Vec Ideal S512x1024 .bf16)
    (hx : ∀ (t : Fin 16) (k : Fin 512) (i : Fin 1024), x t (ix2 k i) = X (ix2 ⟨512 * t.val + k.val, by omega⟩ i))
    (hy : ∀ (t : Fin 16) (k : Fin 512) (i : Fin 1024), y t (ix2 k i) = Y (ix2 ⟨512 * t.val + k.val, by omega⟩ i))
    (h0 : f 0 = addf zero (blockDot (x 0) (y 0)))
    (hs : ∀ t : Fin 15, f t.succ = addf (f t.castSucc) (blockDot (x t.succ) (y t.succ))) :
    f (Fin.last 15) = whole X Y := by
  funext y'
  obtain ⟨i, j, rfl⟩ : ∃ i j, y' = ix2 i j := ⟨_, _, eq_ix2 y'⟩
  have e := Cert.Sums.running (n := 15) (fun t => f t (ix2 i j)) (fun t => ∑ k : Fin 512, x t (ix2 k i) * y t (ix2 k j))
    (by
      show f 0 (ix2 i j) = _
      rw [h0]
      show zero (ix2 i j) + blockDot (x 0) (y 0) (ix2 i j) = _
      rw [zero_apply, blockDot_apply, zero_add])
    (fun t => by
      show f t.succ (ix2 i j) = _
      rw [hs t]
      show f t.castSucc (ix2 i j) + blockDot (x t.succ) (y t.succ) (ix2 i j) = _
      rw [blockDot_apply])
  refine e.trans ?_
  show _ = ∑ k : Fin 8192, X (ix2 k i) * Y (ix2 k j)
  rw [← Cert.Sums.fin_blocks 16 512 8192 rfl]
  exact Finset.sum_congr rfl fun t _ => Finset.sum_congr rfl fun k _ => by rw [hx, hy]

variable (m : (ℓ : Loc nD τ sig) → Buf (Elt Ideal) ℓ)

theorem points : cfg0.N = 16 := N_0

/-- The point a number below sixteen stands for. -/
abbrev pt (t : Fin 16) : Fin cfg0.N := ⟨t.val, by rw [points]; exact t.isLt⟩

theorem row0 : ∀ t : Fin 16, win0_0.index (pt t) 0 = t.val ∧ win0_0.index (pt t) 1 = 0 := by decide +kernel
theorem row1 : ∀ t : Fin 16, win0_1.index (pt t) 0 = t.val ∧ win0_1.index (pt t) 1 = 0 := by decide +kernel
theorem row2 : ∀ t : Fin 16, win0_2.index (pt t) 0 = t.val ∧ win0_2.index (pt t) 1 = 0 := by decide +kernel
theorem row3 : ∀ t : Fin 16, win0_3.index (pt t) 0 = t.val ∧ win0_3.index (pt t) 1 = 0 := by decide +kernel
theorem row4 : ∀ t : Fin 16, win0_4.index (pt t) 0 = t.val ∧ win0_4.index (pt t) 1 = 0 := by decide +kernel
theorem row5 : ∀ t : Fin 16, win0_5.index (pt t) 0 = t.val ∧ win0_5.index (pt t) 1 = 0 := by decide +kernel

/-- An index at which a block of 512 rows is read: its row is the block's first row plus its own. -/
theorem at_row {x : S8192x1024.Idx} {t : Fin 16} {k : Fin 512} {i : Fin 1024} {a b : ℕ} (h : a = t.val ∧ b = 0)
    (h0 : (x 0 : ℕ) = a * 512 + 1 * k.val) (h1 : (x 1 : ℕ) = b * 1024 + 1 * i.val) :
    x = ix2 ⟨512 * t.val + k.val, by omega⟩ i :=
  Shape.idx_ext₂ (by show (x 0 : ℕ) = 512 * t.val + k.val; omega) (by show (x 1 : ℕ) = i.val; omega)

theorem blk0 (c : Dev nD) (t : Fin 16) (k : Fin 512) (i : Fin 1024) : (iblk m c 0 (pt t) : Vec Ideal S512x1024 .bf16) (ix2 k i)
    = (m ((c : Thread nD τ).loc main_arg0) : Vec Ideal S8192x1024 .bf16) (ix2 ⟨512 * t.val + k.val, by omega⟩ i) := by
  unfold iblk; rw [View.read_apply]
  exact congrArg (m ((c : Thread nD τ).loc main_arg0)) (at_row (row0 t) rfl rfl)
theorem blk1 (c : Dev nD) (t : Fin 16) (k : Fin 512) (i : Fin 1024) : (iblk m c 1 (pt t) : Vec Ideal S512x1024 .bf16) (ix2 k i)
    = (m ((c : Thread nD τ).loc main_arg1) : Vec Ideal S8192x1024 .bf16) (ix2 ⟨512 * t.val + k.val, by omega⟩ i) := by
  unfold iblk; rw [View.read_apply]
  exact congrArg (m ((c : Thread nD τ).loc main_arg1)) (at_row (row1 t) rfl rfl)
theorem blk2 (c : Dev nD) (t : Fin 16) (k : Fin 512) (i : Fin 1024) : (iblk m c 2 (pt t) : Vec Ideal S512x1024 .bf16) (ix2 k i)
    = (m ((c : Thread nD τ).loc main_arg2) : Vec Ideal S8192x1024 .bf16) (ix2 ⟨512 * t.val + k.val, by omega⟩ i) := by
  unfold iblk; rw [View.read_apply]
  exact congrArg (m ((c : Thread nD τ).loc main_arg2)) (at_row (row2 t) rfl rfl)
theorem blk3 (c : Dev nD) (t : Fin 16) (k : Fin 512) (i : Fin 1024) : (iblk m c 3 (pt t) : Vec Ideal S512x1024 .bf16) (ix2 k i)
    = (m ((c : Thread nD τ).loc main_arg3) : Vec Ideal S8192x1024 .bf16) (ix2 ⟨512 * t.val + k.val, by omega⟩ i) := by
  unfold iblk; rw [View.read_apply]
  exact congrArg (m ((c : Thread nD τ).loc main_arg3)) (at_row (row3 t) rfl rfl)
theorem blk4 (c : Dev nD) (t : Fin 16) (k : Fin 512) (i : Fin 1024) : (iblk m c 4 (pt t) : Vec Ideal S512x1024 .bf16) (ix2 k i)
    = (m ((c : Thread nD τ).loc main_arg4) : Vec Ideal S8192x1024 .bf16) (ix2 ⟨512 * t.val + k.val, by omega⟩ i) := by
  unfold iblk; rw [View.read_apply]
  exact congrArg (m ((c : Thread nD τ).loc main_arg4)) (at_row (row4 t) rfl rfl)
theorem blk5 (c : Dev nD) (t : Fin 16) (k : Fin 512) (i : Fin 1024) : (iblk m c 5 (pt t) : Vec Ideal S512x1024 .bf16) (ix2 k i)
    = (m ((c : Thread nD τ).loc main_arg5) : Vec Ideal S8192x1024 .bf16) (ix2 ⟨512 * t.val + k.val, by omega⟩ i) := by
  unfold iblk; rw [View.read_apply]
  exact congrArg (m ((c : Thread nD τ).loc main_arg5)) (at_row (row5 t) rfl rfl)

/-- The accumulators after point `t`. -/
def accs (c : Dev nD) (t : Fin 16) : Vec Ideal S1024x1024 .f32 × Vec Ideal S1024x1024 .f32 × Vec Ideal S1024x1024 .f32 :=
  outsAt0 m c (pt t).val (pt t).isLt

theorem accs_zero (c : Dev nD) : accs m c 0 = (addf zero (blockDot (iblk m c 0 (pt 0)) (iblk m c 1 (pt 0))),
    addf zero (blockDot (iblk m c 2 (pt 0)) (iblk m c 3 (pt 0))), addf zero (blockDot (iblk m c 4 (pt 0)) (iblk m c 5 (pt 0)))) :=
  first m c (pt 0) rfl

theorem accs_succ (c : Dev nD) (t : Fin 15) : accs m c t.succ
    = (addf (accs m c t.castSucc).1 (blockDot (iblk m c 0 (pt t.succ)) (iblk m c 1 (pt t.succ))),
      addf (accs m c t.castSucc).2.1 (blockDot (iblk m c 2 (pt t.succ)) (iblk m c 3 (pt t.succ))),
      addf (accs m c t.castSucc).2.2 (blockDot (iblk m c 4 (pt t.succ)) (iblk m c 5 (pt t.succ)))) :=
  later m c (pt t.succ) (by have := t.isLt; show ¬(t.val + 1) % 16 = 0; omega)

/-! After the last point each accumulator holds its pair's whole product. -/

theorem last6 (c : Dev nD) : (accs m c (Fin.last 15)).1
    = whole (m ((c : Thread nD τ).loc main_arg0)) (m ((c : Thread nD τ).loc main_arg1)) :=
  total (fun t => (accs m c t).1) _ _ _ _ (blk0 m c) (blk1 m c) (congrArg (·.1) (accs_zero m c))
    (fun t => congrArg (·.1) (accs_succ m c t))

theorem last7 (c : Dev nD) : (accs m c (Fin.last 15)).2.1
    = whole (m ((c : Thread nD τ).loc main_arg2)) (m ((c : Thread nD τ).loc main_arg3)) :=
  total (fun t => (accs m c t).2.1) _ _ _ _ (blk2 m c) (blk3 m c) (congrArg (·.2.1) (accs_zero m c))
    (fun t => congrArg (·.2.1) (accs_succ m c t))

theorem last8 (c : Dev nD) : (accs m c (Fin.last 15)).2.2
    = whole (m ((c : Thread nD τ).loc main_arg4)) (m ((c : Thread nD τ).loc main_arg5)) :=
  total (fun t => (accs m c t).2.2) _ _ _ _ (blk4 m c) (blk5 m c) (congrArg (·.2.2) (accs_zero m c))
    (fun t => congrArg (·.2.2) (accs_succ m c t))

/-- The last point. -/
abbrev tl : Fin cfg0.N := pt (Fin.last 15)

theorem flushed6_eq (c : Dev nD) (t : Fin cfg0.N) (hf : (cfg0.win 6).flush t = true) : (dats m 0 c).flushed 6 t
    = ((cfg0.win 6).blk t).view.read (Elt Ideal) (whole (m ((c : Thread nD τ).loc main_arg0)) (m ((c : Thread nD τ).loc main_arg1))) := by
  obtain rfl : t = tl := Fin.ext (by have := (flush0_6 t).mp hf; have := lt_of_lt_of_eq t.isLt points; show t.val = 15; omega)
  rw [flushed6, show (outsAt0 m c tl.val tl.isLt).1 = _ from last6 m c]
  have hz : (fun a => win0_6.index tl a * main_v0_0.ty.shape.size a) = fun _ => 0 := funext fun a => by fin_cases a <;> decide
  exact (Memref.read_access_unit_zero (Elt Ideal) main_v0_0 hz (fun a => by rw [congrFun hz a]; simp) (whole _ _)).symm

theorem flushed7_eq (c : Dev nD) (t : Fin cfg0.N) (hf : (cfg0.win 7).flush t = true) : (dats m 0 c).flushed 7 t
    = ((cfg0.win 7).blk t).view.read (Elt Ideal) (whole (m ((c : Thread nD τ).loc main_arg2)) (m ((c : Thread nD τ).loc main_arg3))) := by
  obtain rfl : t = tl := Fin.ext (by have := (flush0_7 t).mp hf; have := lt_of_lt_of_eq t.isLt points; show t.val = 15; omega)
  rw [flushed7, show (outsAt0 m c tl.val tl.isLt).2.1 = _ from last7 m c]
  have hz : (fun a => win0_7.index tl a * main_v0_1.ty.shape.size a) = fun _ => 0 := funext fun a => by fin_cases a <;> decide
  exact (Memref.read_access_unit_zero (Elt Ideal) main_v0_1 hz (fun a => by rw [congrFun hz a]; simp) (whole _ _)).symm

theorem flushed8_eq (c : Dev nD) (t : Fin cfg0.N) (hf : (cfg0.win 8).flush t = true) : (dats m 0 c).flushed 8 t
    = ((cfg0.win 8).blk t).view.read (Elt Ideal) (whole (m ((c : Thread nD τ).loc main_arg4)) (m ((c : Thread nD τ).loc main_arg5))) := by
  obtain rfl : t = tl := Fin.ext (by have := (flush0_8 t).mp hf; have := lt_of_lt_of_eq t.isLt points; show t.val = 15; omega)
  rw [flushed8, show (outsAt0 m c tl.val tl.isLt).2.2 = _ from last8 m c]
  have hz : (fun a => win0_8.index tl a * main_v0_2.ty.shape.size a) = fun _ => 0 := funext fun a => by fin_cases a <;> decide
  exact (Memref.read_access_unit_zero (Elt Ideal) main_v0_2 hz (fun a => by rw [congrFun hz a]; simp) (whole _ _)).symm

/-- An index lies in a block that starts at zero and is as large as the array. -/
theorem inside (y : S1024x1024.Idx) {s x : Fin 2 → ℕ} (hs : s 0 = 0 ∧ s 1 = 0) (hx : x 0 = 1024 ∧ x 1 = 1024) (a : Fin 2) :
    s a ≤ (y a : ℕ) ∧ (y a : ℕ) < s a + x a := by
  have h0 : (y 0 : ℕ) < 1024 := (y 0).isLt
  have h1 : (y 1 : ℕ) < 1024 := (y 1).isLt
  match a with
  | 0 => rw [hs.1, hx.1]; omega
  | 1 => rw [hs.2, hx.2]; omega

theorem result6 (c : Dev nD) : (dats m 0 c).arrAt 6 cfg0.N
    = whole (m ((c : Thread nD τ).loc main_arg0)) (m ((c : Thread nD τ).loc main_arg1)) :=
  (dats m 0 c).arrAt_eq_of_cover 6 _ (flushed6_eq m c) fun i => ⟨tl, (flush0_6 tl).mpr rfl, by
    show i ∈ ((View.whole main_v0_0).slice (win0_6.rect tl)).set
    rw [View.set_slice_whole, Rect.mem_set_unit]
    exact inside i (by decide +kernel) (by decide +kernel)⟩

theorem result7 (c : Dev nD) : (dats m 0 c).arrAt 7 cfg0.N
    = whole (m ((c : Thread nD τ).loc main_arg2)) (m ((c : Thread nD τ).loc main_arg3)) :=
  (dats m 0 c).arrAt_eq_of_cover 7 _ (flushed7_eq m c) fun i => ⟨tl, (flush0_7 tl).mpr rfl, by
    show i ∈ ((View.whole main_v0_1).slice (win0_7.rect tl)).set
    rw [View.set_slice_whole, Rect.mem_set_unit]
    exact inside i (by decide +kernel) (by decide +kernel)⟩

theorem result8 (c : Dev nD) : (dats m 0 c).arrAt 8 cfg0.N
    = whole (m ((c : Thread nD τ).loc main_arg4)) (m ((c : Thread nD τ).loc main_arg5)) :=
  (dats m 0 c).arrAt_eq_of_cover 8 _ (flushed8_eq m c) fun i => ⟨tl, (flush0_8 tl).mpr rfl, by
    show i ∈ ((View.whole main_v0_2).slice (win0_8.rect tl)).set
    rw [View.set_slice_whole, Rect.mem_set_unit]
    exact inside i (by decide +kernel) (by decide +kernel)⟩

end Cert.Kernel3Ideal.Square

end
-- ==== Proof.SquareClaim.lean ====
/- The three square products' call and its reference end with equal results over the extended reals. -/
module

public import proofs.«01_k».proof.Proof.Square
public import proofs.«01_k».proof.Proof.Gen.Reference3Ideal.Run
public import proofs.«01_k».proof.Defs

@[expose] public section

noncomputable section

open Idealize.ShloMosaic Idealize.ShloMosaic.TcCoe Idealize.SL.Sem Idealize.ShloMosaic.ValueIdx
open scoped BigOperators

namespace Cert.Proof

open Cert.Reference3Ideal Cert.Reference3Ideal.Gen

/-- The reference's product of a pair is the pair's whole product. -/
theorem product_eq (X Y : Vec Ideal Cert.Kernel3Ideal.S8192x1024 .bf16) :
    Host.dotGeneral dot_S1024x8192_S8192x1024_S1024x1024_1_0_0_1_n_n none (transpose S1024x8192 [1, 0]
      (extf (F := Ideal) .f32 (X : Vec Ideal S8192x1024 .bf16) bitsLt_bf16_f32) transposes_S8192x1024_S1024x8192_1_0)
      (extf (F := Ideal) .f32 (Y : Vec Ideal S8192x1024 .bf16) bitsLt_bf16_f32) = Cert.Kernel3Ideal.Square.whole X Y := by
  funext y
  obtain ⟨i, j, rfl⟩ : ∃ i j, y = ix2 i j := ⟨_, _, eq_ix2 y⟩
  show _ = ∑ k : Fin 8192, X (ix2 k i) * Y (ix2 k j)
  simp only [Host.dotGeneral]
  rw [Ideal.dotGeneral_apply, Cert.Sums.contracted _ 8192 rfl rfl]
  refine Finset.sum_congr rfl fun k _ => ?_
  refine congrArg₂ (· * ·) ?_ ?_
  · rw [transpose_apply [1, 0] _ _ _ (ix2 k i) fun b => by match b with | 0 => rfl | 1 => rfl]
    rfl
  · exact congrArg Y (Shape.idx_ext₂ rfl rfl)

theorem algebraic3 : Cert.algebraic_Kernel3Ideal_Reference3Ideal := by
  intro m ρ m' ρ' _ h
  refine ⟨fun c => Cert.Kernel3Ideal.Square.whole (m (c.tc.loc Cert.Kernel3Ideal.main_arg0)) (m (c.tc.loc Cert.Kernel3Ideal.main_arg1)),
    fun c => Cert.Kernel3Ideal.Square.whole (m (c.tc.loc Cert.Kernel3Ideal.main_arg2)) (m (c.tc.loc Cert.Kernel3Ideal.main_arg3)),
    fun c => Cert.Kernel3Ideal.Square.whole (m (c.tc.loc Cert.Kernel3Ideal.main_arg4)) (m (c.tc.loc Cert.Kernel3Ideal.main_arg5)), ?_, ?_⟩
  · exact (θ_run Cert.Kernel3Ideal.defs _ _).mono (fun r g c => ⟨(g c).1.trans (Cert.Kernel3Ideal.Square.result6 m c),
      (g c).2.1.trans (Cert.Kernel3Ideal.Square.result7 m c), (g c).2.2.1.trans (Cert.Kernel3Ideal.Square.result8 m c), (g c).2.2.2⟩)
      (Cert.Kernel3Ideal.Value.run_blocks m ρ)
  · refine (θ_run Cert.Reference3Ideal.defs _ _).mono (fun r g c => ?_) (Cert.Reference3Ideal.Value.run m' ρ')
    obtain ⟨h0, h1, h2, h3, h4, h5, _⟩ := h c
    refine ⟨(g c).1.trans ?_, (g c).2.1.trans ?_, (g c).2.2.1.trans ?_, (g c).2.2.2⟩
    · rw [h0, h1]; exact product_eq _ _
    · rw [h2, h3]; exact product_eq _ _
    · rw [h4, h5]; exact product_eq _ _

end Cert.Proof

end
-- ==== Proof.Body.lean ====
/- What the data gradient's call leaves in its two output blocks after each point, in terms of the point's input blocks, for any
   float values. -/
module

public import proofs.«01_k».proof.Proof.Gen.KernelIdeal.Value
public import Idealize.ShloMosaic.Lib.Tactic

@[expose] public section

noncomputable section

open Idealize.ShloMosaic Idealize.ShloMosaic.TcCoe Idealize.SL.Sem

namespace Cert.KernelIdeal.Body

open Cert.KernelIdeal Cert.KernelIdeal.Gen Cert.KernelIdeal.Value

theorem zeros : (![0, 0] : Fin 2 → Nat) = fun _ => 0 := funext fun a => by fin_cases a <;> rfl

variable {F : FTy → Type} [FloatOps F]
variable (m : (ℓ : Loc nD τ sig) → Buf (Elt F) ℓ)

/-- The gradient of the normalised rows: the eight products, added up in order. -/
def dxn (p0 : Vec F S512x3072 .bf16) (p1 p2 : Vec F S512x1024 .bf16) (p3 : Vec F S512x512 .bf16) (p4 : Vec F S512x3072 .bf16)
    (w : Vec F S4x1024x2176 .bf16) : FVec F S512x1024 .f32 :=
  k0_pay6
    (k0_pay4 (View.ld p0 (Rect.unit ![0, 0] ![512, 2176] inb_S512x3072_S512x2176_0_0))
      (View.ld w (Rect.unit ![0, 0, 0] ![1, 1024, 2176] inb_S4x1024x2176_S1x1024x2176_0_0_0))
      (View.ld p0 (Rect.unit ![0, 2176] ![512, 896] inb_S512x3072_S512x896_0_2176))
      (View.ld w (Rect.unit ![1, 0, 0] ![1, 1024, 896] inb_S4x1024x2176_S1x1024x896_1_0_0))
      p1
      (View.ld w (Rect.unit ![1, 0, 896] ![1, 1024, 1024] inb_S4x1024x2176_S1x1024x1024_1_0_896))
      (View.ld p2 (Rect.unit ![0, 0] ![512, 256] inb_S512x1024_S512x256_0_0))
      (View.ld w (Rect.unit ![1, 0, 1920] ![1, 1024, 256] inb_S4x1024x2176_S1x1024x256_1_0_1920)))
    (k0_pay5 (View.ld p2 (Rect.unit ![0, 256] ![512, 768] inb_S512x1024_S512x768_0_256))
      (View.ld w (Rect.unit ![2, 0, 0] ![1, 1024, 768] inb_S4x1024x2176_S1x1024x768_2_0_0)))
    (View.ld p3 (Rect.unit ![0, 0] ![512, 512] inb_S512x512_S512x512_0_0))
    (View.ld w (Rect.unit ![2, 0, 768] ![1, 1024, 512] inb_S4x1024x2176_S1x1024x512_2_0_768))
    (View.ld p4 (Rect.unit ![0, 0] ![512, 896] inb_S512x3072_S512x896_0_0))
    (View.ld w (Rect.unit ![2, 0, 1280] ![1, 1024, 896] inb_S4x1024x2176_S1x1024x896_2_0_1280))
    (View.ld p4 (Rect.unit ![0, 896] ![512, 2176] inb_S512x3072_S512x2176_0_896))
    (View.ld w (Rect.unit ![3, 0, 0] ![1, 1024, 2176] inb_S4x1024x2176_S1x1024x2176_3_0_0))

/-- The rows' gradient through the normalisation by the weights `nw`, added to `y`, from the gradient `d` of the normalised rows `x`. -/
def gx (d : FVec F S512x1024 .f32) (x y : Vec F S512x1024 .f32) (nw : Vec F S1x1024 .f32) : FVec F S512x1024 .f32 :=
  k0_pay1 (k0_pay7 x) (k0_pay8 x) (mulf d (broadcastTo S512x1024 nw broadcasts_S1x1024_S512x1024)) y
    (mulf (mulf d (broadcastTo S512x1024 nw broadcasts_S1x1024_S512x1024)) (k0_pay8 x))

/-- The first output block after a point is the point's alone. -/
theorem rows (c : Dev nD) (t : Fin cfg0.N) : (outsAt0 m c t.val t.isLt).1
    = gx (dxn (iblk m c 0 t) (iblk m c 1 t) (iblk m c 2 t) (iblk m c 3 t) (iblk m c 4 t) (iblk m c 5 t)) (iblk m c 6 t) (iblk m c 7 t)
      (View.ld (iblk m c 8 t) (Rect.unit ![0, 0] ![1, 1024] inb_S1x1024_S1x1024_0_0)) := by
  by_cases h0 : t.val % 16 = 0
  · rw [outsAt0_A m c t h0]
    dsimp only
    unfold out0_A_9
    rw [View.read_writes_eq_canon]; swap; exact fun y => cover0_A_9 ..
    unfold kernelRun0_A
    dsimp only
    sl_unfold_words
    rw [View.canon_unit_zero (S := S512x1024) zeros]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      View.ld_unit_zero (S := S512x1024) zeros]
    rfl
  · rw [outsAt0_B m c t h0]
    dsimp only
    unfold out0_B_9
    rw [View.read_writes_eq_canon]; swap; exact fun y => cover0_B_9 ..
    unfold kernelRun0_B
    dsimp only
    sl_unfold_words
    rw [View.canon_unit_zero (S := S512x1024) zeros]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      View.ld_unit_zero (S := S512x1024) zeros]
    rfl

/-- The second output block starts from zero … -/
theorem first (c : Dev nD) (t : Fin cfg0.N) (h0 : t.val % 16 = 0) : (outsAt0 m c t.val t.isLt).2
    = k0_pay2 (dxn (iblk m c 0 t) (iblk m c 1 t) (iblk m c 2 t) (iblk m c 3 t) (iblk m c 4 t) (iblk m c 5 t)) (k0_pay8 (iblk m c 6 t))
      k0_pay3 := by
  rw [outsAt0_A m c t h0]
  dsimp only
  unfold out0_A_10
  rw [View.read_writes_eq_canon]; swap; exact fun y => cover0_A_10 ..
  unfold kernelRun0_A
  dsimp only
  sl_unfold_words
  rw [View.canon_cons_unit_zero (S := S8x1024) zeros, View.readCov_unit_zero (S := S8x1024) _ zeros]
  simp only [View.readAt_eq_ld, (hs0_0 t).read_unread, (hs0_1 t).read_unread, (hs0_2 t).read_unread, (hs0_3 t).read_unread,
    (hs0_4 t).read_unread, (hs0_5 t).read_unread, (hs0_6 t).read_unread, View.ld_unit_zero (S := S512x1024) zeros]
  rfl

/-- … and each later point adds to what the point before left. -/
theorem later (c : Dev nD) (t : Fin cfg0.N) (h0 : ¬t.val % 16 = 0) : (outsAt0 m c t.val t.isLt).2
    = k0_pay2 (dxn (iblk m c 0 t) (iblk m c 1 t) (iblk m c 2 t) (iblk m c 3 t) (iblk m c 4 t) (iblk m c 5 t)) (k0_pay8 (iblk m c 6 t))
      (outsAt0 m c (t.val - 1) (Nat.lt_of_le_of_lt (Nat.sub_le _ _) t.isLt)).2 := by
  rw [outsAt0_B m c t h0]
  dsimp only
  unfold out0_B_10
  rw [View.read_writes_eq_canon]; swap; exact fun y => cover0_B_10 ..
  unfold kernelRun0_B
  dsimp only
  sl_unfold_words
  rw [View.canon_unit_zero (S := S8x1024) zeros]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    View.ld_unit_zero (S := S512x1024) zeros, View.ld_unit_zero (S := S8x1024) zeros]
  rfl

end Cert.KernelIdeal.Body

end
-- ==== Proof.Block.lean ====
/- The data gradient's blocks at an index, over the extended reals. -/
module

public import proofs.«01_k».proof.Proof.Body
public import proofs.«01_k».proof.Proof.Columns
public import proofs.«01_k».proof.Proof.Row
public import proofs.«01_k».proof.Proof.Sums

@[expose] public section

noncomputable section

open Idealize.ShloMosaic Idealize.ShloMosaic.TcCoe Idealize.SL.Sem Idealize.ShloMosaic.ValueIdx
open scoped BigOperators

namespace Cert.KernelIdeal.Body

open Cert.KernelIdeal Cert.KernelIdeal.Gen Cert.Columns

/-- Columns read from a block of rows. -/
theorem ldp {w : ℕ} (X : Vec Ideal ⟨2, ![512, w]⟩ .bf16) (o n : ℕ)
    (inb : ∀ a, (![0, o] : Fin 2 → ℕ) a + (![512, n] : Fin 2 → ℕ) a ≤ (⟨2, ![512, w]⟩ : Shape).size a) (hw : o + n ≤ w) (i : Fin 512)
    (c : Fin n) :
    View.ld X (Rect.unit (s := ⟨2, ![512, w]⟩) ![0, o] ![512, n] inb) (ix2 i c) = X (ix2 i ⟨o + c.val, by omega⟩) :=
  congrArg X (Shape.idx_ext₂ (by show 0 + 1 * i.val = i.val; omega) (by show o + 1 * c.val = o + c.val; omega))

/-- Columns read from one group of the weights. -/
theorem ldw (W : Vec Ideal S4x1024x2176 .bf16) (g o n : ℕ)
    (inb : ∀ a, (![g, 0, o] : Fin 3 → ℕ) a + (![1, 1024, n] : Fin 3 → ℕ) a ≤ S4x1024x2176.size a) (hg : g < 4) (hw : o + n ≤ 2176)
    (k : Fin 1024) (c : Fin n) :
    View.ld W (Rect.unit (s := S4x1024x2176) ![g, 0, o] ![1, 1024, n] inb) (ix3 (n0 := 1) 0 k c)
      = W (ix3 ⟨g, hg⟩ k ⟨o + c.val, by omega⟩) :=
  congrArg W (funext fun a => Fin.ext (by
    match a with
    | ⟨0, _⟩ => show g + 1 * 0 = g; omega
    | ⟨1, _⟩ => show 0 + 1 * k.val = k.val; omega
    | ⟨2, _⟩ => show o + 1 * c.val = o + c.val; omega))

/-- One stretch's product at an index sums the stretch's columns. -/
theorem term {n : ℕ} (D : DotDims ⟨2, ![512, n]⟩ ⟨2, ![1024, n]⟩ S512x1024) (hr : D.contr.rank = 1)
    (hs : D.contr.size ⟨0, by omega⟩ = n) (A : Vec Ideal ⟨2, ![512, n]⟩ .bf16) (B : Vec Ideal ⟨3, ![1, 1024, n]⟩ .bf16)
    (h : (⟨3, ![1, 1024, n]⟩ : Shape).ShapeCasts ⟨2, ![1024, n]⟩) (i : Fin 512) (k : Fin 1024)
    (hl : ∀ c, D.lhsIdx (ix2 i k) ((contrEquiv1 D n hr hs).symm c) = ix2 i c)
    (hrr : ∀ c, D.rhsIdx (ix2 i k) ((contrEquiv1 D n hr hs).symm c) = ix2 k c) (f : ℕ → EReal) (s : ℕ)
    (hf : ∀ c : Fin n, A (ix2 i c) * B (ix3 0 k c) = f (s + c.val)) :
    matmul (φ₁ := .bf16) (φ₂ := .bf16) D none A (shapeCast ⟨2, ![1024, n]⟩ B h) (constant (F := Ideal) S512x1024 .f32 0x00000000#32) (ix2 i k)
      = ∑ c ∈ Finset.range n, f (s + c) := by
  unfold matmul
  rw [Ideal.matmul_constant_zero_apply, Cert.Sums.contracted D n hr hs]
  refine stretch s f _ fun c => ?_
  rw [hl, hrr, ← hf]
  congr 1
  rw [shapeCast_dropUnit_apply ![1024, n] B h (ix2 k c)]
  congr 1
  funext a
  match a with
  | ⟨0, _⟩ => rfl
  | ⟨1, _⟩ => rfl
  | ⟨2, _⟩ => rfl

/-- The gradient of the normalised rows at an index: the row of gradients against the row of weights. -/
theorem dxn_apply (p0 : Vec Ideal S512x3072 .bf16) (p1 p2 : Vec Ideal S512x1024 .bf16) (p3 : Vec Ideal S512x512 .bf16)
    (p4 : Vec Ideal S512x3072 .bf16) (w : Vec Ideal S4x1024x2176 .bf16) (i : Fin 512) (k : Fin 1024) :
    dxn p0 p1 p2 p3 p4 w (ix2 i k)
      = ∑ c : Fin 8704, piece (fun j => p0 (ix2 i j)) (fun j => p1 (ix2 i j)) (fun j => p2 (ix2 i j)) (fun j => p3 (ix2 i j))
          (fun j => p4 (ix2 i j)) c.val * weight (fun g j => w (ix3 g k j)) c.val := by
  obtain ⟨f, hf⟩ : ∃ f : ℕ → EReal, ∀ c, f c = piece (fun j => p0 (ix2 i j)) (fun j => p1 (ix2 i j)) (fun j => p2 (ix2 i j))
    (fun j => p3 (ix2 i j)) (fun j => p4 (ix2 i j)) c * weight (fun g j => w (ix3 g k j)) c := ⟨_, fun _ => rfl⟩
  refine Eq.trans ?_ ((total f).symm.trans (Finset.sum_congr rfl fun c _ => hf c.val))
  unfold dxn k0_pay6 k0_pay4 k0_pay5
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  · refine term dot_S512x2176_S1024x2176_S512x1024_1_1_0_0_n_n rfl rfl _ _ _ i k (fun c => Shape.idx_ext₂ rfl rfl) (fun c => Shape.idx_ext₂ rfl rfl) f 0 fun c => ?_
    rw [hf, ldp _ _ _ _ (by omega), ldw _ _ _ _ _ (by omega) (by omega), piece0 ⟨0 + c.val, by omega⟩ rfl, weight_at ⟨0, by omega⟩ ⟨0 + c.val, by omega⟩ (by dsimp only; omega)]
  · refine term dot_S512x896_S1024x896_S512x1024_1_1_0_0_n_n rfl rfl _ _ _ i k (fun c => Shape.idx_ext₂ rfl rfl) (fun c => Shape.idx_ext₂ rfl rfl) f 2176 fun c => ?_
    rw [hf, ldp _ _ _ _ (by omega), ldw _ _ _ _ _ (by omega) (by omega), piece0 ⟨2176 + c.val, by omega⟩ rfl, weight_at ⟨1, by omega⟩ ⟨0 + c.val, by omega⟩ (by dsimp only; omega)]
  · refine term dot_S512x1024_S1024x1024_S512x1024_1_1_0_0_n_n rfl rfl _ _ _ i k (fun c => Shape.idx_ext₂ rfl rfl) (fun c => Shape.idx_ext₂ rfl rfl) f 3072 fun c => ?_
    rw [hf, ldw _ _ _ _ _ (by omega) (by omega), piece1 c rfl, weight_at ⟨1, by omega⟩ ⟨896 + c.val, by omega⟩ (by dsimp only; omega)]
  · refine term dot_S512x256_S1024x256_S512x1024_1_1_0_0_n_n rfl rfl _ _ _ i k (fun c => Shape.idx_ext₂ rfl rfl) (fun c => Shape.idx_ext₂ rfl rfl) f 4096 fun c => ?_
    rw [hf, ldp _ _ _ _ (by omega), ldw _ _ _ _ _ (by omega) (by omega), piece2 ⟨0 + c.val, by omega⟩ (by dsimp only; omega),
      weight_at ⟨1, by omega⟩ ⟨1920 + c.val, by omega⟩ (by dsimp only; omega)]
  · refine term dot_S512x768_S1024x768_S512x1024_1_1_0_0_n_n rfl rfl _ _ _ i k (fun c => Shape.idx_ext₂ rfl rfl) (fun c => Shape.idx_ext₂ rfl rfl) f 4352 fun c => ?_
    rw [hf, ldp _ _ _ _ (by omega), ldw _ _ _ _ _ (by omega) (by omega), piece2 ⟨256 + c.val, by omega⟩ (by dsimp only; omega),
      weight_at ⟨2, by omega⟩ ⟨0 + c.val, by omega⟩ (by dsimp only; omega)]
  · refine term dot_S512x512_S1024x512_S512x1024_1_1_0_0_n_n rfl rfl _ _ _ i k (fun c => Shape.idx_ext₂ rfl rfl) (fun c => Shape.idx_ext₂ rfl rfl) f 5120 fun c => ?_
    rw [hf, ldp _ _ _ _ (by omega), ldw _ _ _ _ _ (by omega) (by omega), piece3 ⟨0 + c.val, by omega⟩ (by dsimp only; omega),
      weight_at ⟨2, by omega⟩ ⟨768 + c.val, by omega⟩ (by dsimp only; omega)]
  · refine term dot_S512x896_S1024x896_S512x1024_1_1_0_0_n_n rfl rfl _ _ _ i k (fun c => Shape.idx_ext₂ rfl rfl) (fun c => Shape.idx_ext₂ rfl rfl) f 5632 fun c => ?_
    rw [hf, ldp _ _ _ _ (by omega), ldw _ _ _ _ _ (by omega) (by omega), piece4 ⟨0 + c.val, by omega⟩ (by dsimp only; omega),
      weight_at ⟨2, by omega⟩ ⟨1280 + c.val, by omega⟩ (by dsimp only; omega)]
  · refine term dot_S512x2176_S1024x2176_S512x1024_1_1_0_0_n_n rfl rfl _ _ _ i k (fun c => Shape.idx_ext₂ rfl rfl) (fun c => Shape.idx_ext₂ rfl rfl) f 6528 fun c => ?_
    rw [hf, ldp _ _ _ _ (by omega), ldw _ _ _ _ _ (by omega) (by omega), piece4 ⟨896 + c.val, by omega⟩ (by dsimp only; omega),
      weight_at ⟨3, by omega⟩ ⟨0 + c.val, by omega⟩ (by dsimp only; omega)]

/-- A sum along the rows. -/
theorem sum1 (v : FVec Ideal S512x1024 .f32) (i : Fin 512) :
    multiReduction .add [1] S512 v 0x00000000#32 reduces_S512x1024_S512 (.inl rfl) rfl (ix1 i) = ∑ j : Fin 1024, v (ix2 i j) :=
  (Ideal.multiReduction_add_single v _ reduces_S512x1024_S512 (.inl rfl) rfl (ix1 i)).trans
    (Finset.sum_congr rfl fun _ _ => congrArg v (Shape.idx_ext₂ rfl rfl))

/-- A sum along the columns. -/
theorem sum0 (v : FVec Ideal S512x1024 .f32) (k : Fin 1024) :
    multiReduction .add [0] S1024 v 0x00000000#32 reduces_S512x1024_S1024 (.inl rfl) rfl (ix1 k) = ∑ r : Fin 512, v (ix2 r k) :=
  (Ideal.multiReduction_add_single v _ reduces_S512x1024_S1024 (.inl rfl) rfl (ix1 k)).trans
    (Finset.sum_congr rfl fun _ _ => congrArg v (Shape.idx_ext₂ rfl rfl))

/-- The rows' scales, one for each row. -/
theorem scale_apply (x : Vec Ideal S512x1024 .f32) (i : Fin 512) (z : Fin 1) :
    k0_pay7 x (ix2 i z) = Cert.Row.scale fun j => x (ix2 i j) := by
  unfold k0_pay7 Cert.Row.scale Cert.Row.var
  refine congrArg (fun v => Ideal.rsqrt (Ideal.div v _ + _)) ?_
  rw [shapeCast_apply _ _ _ (ix1 i) (by rw [Shape.rowMajor_val_two, Shape.rowMajor_val_one]; simp)]
  exact sum1 (mulf x x) i

/-- The normalised rows. -/
theorem normed_apply (x : Vec Ideal S512x1024 .f32) (i : Fin 512) (k : Fin 1024) :
    k0_pay8 x (ix2 i k) = x (ix2 i k) * Cert.Row.scale fun j => x (ix2 i j) := by
  unfold k0_pay8
  refine congrArg (x (ix2 i k) * ·) ?_
  rw [broadcastTo_apply _ _ _ (ix2 i 0) (fun a => by match a with | 0 => rfl | 1 => rfl), scale_apply]

/-- The first output block at an index. -/
theorem gx_apply (d : FVec Ideal S512x1024 .f32) (x y : Vec Ideal S512x1024 .f32) (nw : Vec Ideal S1x1024 .f32) (i : Fin 512)
    (k : Fin 1024) : gx d x y nw (ix2 i k) = y (ix2 i k) + Cert.Row.scale (fun j => x (ix2 i j)) * (d (ix2 i k) * nw (ix2 0 k)
      - x (ix2 i k) * Cert.Row.scale (fun j => x (ix2 i j)) * Ideal.div (∑ j, d (ix2 i j) * nw (ix2 0 j)
          * (x (ix2 i j) * Cert.Row.scale fun j => x (ix2 i j))) (Ideal.ofBits .f32 0x44800000#32)) := by
  unfold gx k0_pay1
  have hn : ∀ j, broadcastTo S512x1024 nw broadcasts_S1x1024_S512x1024 (ix2 i j) = nw (ix2 0 j) := fun j =>
    broadcastTo_apply _ _ _ (ix2 0 j) (fun a => by match a with | 0 => rfl | 1 => rfl)
  refine congrArg₂ (fun a b => y (ix2 i k) + a * b) ?_ (congrArg₂ (· - ·) ?_ (congrArg₂ (· * ·) ?_ ?_))
  · rw [broadcastTo_apply _ _ _ (ix2 i 0) (fun a => by match a with | 0 => rfl | 1 => rfl), scale_apply]
  · exact congrArg (d (ix2 i k) * ·) (hn k)
  · exact normed_apply x i k
  · rw [broadcastTo_apply _ _ _ (ix2 i 0) (fun a => by match a with | 0 => rfl | 1 => rfl)]
    refine congrArg (fun v => Ideal.div v _) ?_
    rw [shapeCast_apply _ _ _ (ix1 i) (by rw [Shape.rowMajor_val_two, Shape.rowMajor_val_one]; simp)]
    refine (sum1 _ i).trans (Finset.sum_congr rfl fun j _ => ?_)
    exact congrArg₂ (fun a b => d (ix2 i j) * a * b) (hn j) (normed_apply x i j)

/-- The choice of the first row among eight. -/
theorem pick {α : Type} (i : Fin 8) (a b : α) :
    Scalar.select (IntOp.cmpi .eq (BitVec.ofNat 32 i.val) 0#32) a b = if i.val = 0 then a else b := by
  fin_cases i <;> rfl

/-- What one block adds to the second output: its first row's sums over the block's rows. -/
theorem step_apply (d v : FVec Ideal S512x1024 .f32) (acc : Vec Ideal S8x1024 .f32) (i : Fin 8) (k : Fin 1024) :
    k0_pay2 d v acc (ix2 i k) = acc (ix2 i k) + if i.val = 0 then ∑ r : Fin 512, d (ix2 r k) * v (ix2 r k) else 0 := by
  unfold k0_pay2
  refine congrArg₂ (· + ·) (congrFun (shapeCast_self _ _) _) ?_
  show Scalar.select (IntOp.cmpi .eq (iota .tc S8x1024 32 [0] iota_S8x1024_d0_w32 (ix2 i k)) 0#32) _ (Ideal.ofBits .f32 0x00000000#32) = _
  rw [iota_single_apply, Ideal.ofBits_zero_f32, pick,
    broadcastTo_apply _ _ _ (ix2 0 k) (fun a => by match a with | 0 => rfl | 1 => rfl), shapeCast_self,
    shapeCast_apply _ _ _ (ix1 k) (by rw [Shape.rowMajor_val_two, Shape.rowMajor_val_one]; simp)]
  exact congrArg (fun v => if i.val = 0 then v else 0) (sum0 (mulf d v) k)

end Cert.KernelIdeal.Body

end
-- ==== Proof.Grad.lean ====
/- The data gradient as plain sums over whole arrays: what both programs are compared with. -/
module

public import proofs.«01_k».proof.Proof.Columns
public import proofs.«01_k».proof.Proof.Row
public import Idealize.ShloMosaic.Lib.ValueIdxCore

@[expose] public section

noncomputable section

open Idealize.ShloMosaic Idealize.ShloMosaic.ValueIdx
open scoped BigOperators

namespace Cert.Grad

/-- The five gradients side by side, each with its own number of columns, the weights and the normalisation's input and weights. -/
abbrev Big := Vec Ideal ⟨2, ![8192, 3072]⟩ .bf16
abbrev Mid := Vec Ideal ⟨2, ![8192, 1024]⟩ .bf16
abbrev Small := Vec Ideal ⟨2, ![8192, 512]⟩ .bf16
abbrev Weights := Vec Ideal ⟨3, ![4, 1024, 2176]⟩ .bf16
abbrev Rows := Vec Ideal ⟨2, ![8192, 1024]⟩ .f32

variable (p0 : Big) (p1 p2 : Mid) (p3 : Small) (p4 : Big) (w : Weights)

/-- The gradient of the normalised row `i` at column `k`: the row of gradients against the row of weights. -/
def back (i : Fin 8192) (k : Fin 1024) : EReal :=
  ∑ c : Fin 8704, Cert.Columns.piece (fun j => p0 (ix2 i j)) (fun j => p1 (ix2 i j)) (fun j => p2 (ix2 i j)) (fun j => p3 (ix2 i j))
    (fun j => p4 (ix2 i j)) c.val * Cert.Columns.weight (fun g j => w (ix3 g k j)) c.val

/-- The scale of row `i`. -/
def scale (x : Rows) (i : Fin 8192) : EReal := Cert.Row.scale fun j => x (ix2 i j)

/-- The rows' gradient through the normalisation, added to `y`. -/
def rows (x y : Rows) (nw : Vec Ideal ⟨2, ![1, 1024]⟩ .f32) : Rows := fun z =>
  y (ix2 (z 0) (z 1)) + scale x (z 0) * (back p0 p1 p2 p3 p4 w (z 0) (z 1) * nw (ix2 0 (z 1)) - x (ix2 (z 0) (z 1)) * scale x (z 0)
    * Ideal.div (∑ j, back p0 p1 p2 p3 p4 w (z 0) j * nw (ix2 0 j) * (x (ix2 (z 0) j) * scale x (z 0))) (Ideal.ofBits .f32 0x44800000#32))

/-- The gradient of the normalisation's weights, in the first row of eight. -/
def weights (x : Rows) : Vec Ideal ⟨2, ![8, 1024]⟩ .f32 := fun z =>
  if (z 0).val = 0 then ∑ i, back p0 p1 p2 p3 p4 w i (z 1) * (x (ix2 i (z 1)) * scale x i) else 0

end Cert.Grad

end
-- ==== Proof.Whole.lean ====
/- What the data gradient's call leaves in its two results, over the extended reals. -/
module

public import proofs.«01_k».proof.Proof.Block
public import proofs.«01_k».proof.Proof.Grad

@[expose] public section

noncomputable section

open Idealize.ShloMosaic Idealize.ShloMosaic.TcCoe Idealize.SL.Sem Idealize.ShloMosaic.ValueIdx
open Idealize.ShloMosaic.Pipeline (Dat)
open scoped BigOperators

namespace Cert.KernelIdeal.Whole

open Cert.KernelIdeal Cert.KernelIdeal.Gen Cert.KernelIdeal.Value Cert.KernelIdeal.Body

variable (m : (ℓ : Loc nD τ sig) → Buf (Elt Ideal) ℓ)

theorem points : cfg0.N = 16 := N_0

/-- The point a number below sixteen stands for. -/
abbrev pt (t : Fin 16) : Fin cfg0.N := ⟨t.val, by rw [points]; exact t.isLt⟩

/-! ## The blocks' indices -/

theorem row0 : ∀ t : Fin 16, win0_0.index (pt t) 0 = t.val ∧ win0_0.index (pt t) 1 = 0 := by decide +kernel
theorem row1 : ∀ t : Fin 16, win0_1.index (pt t) 0 = t.val ∧ win0_1.index (pt t) 1 = 0 := by decide +kernel
theorem row2 : ∀ t : Fin 16, win0_2.index (pt t) 0 = t.val ∧ win0_2.index (pt t) 1 = 0 := by decide +kernel
theorem row3 : ∀ t : Fin 16, win0_3.index (pt t) 0 = t.val ∧ win0_3.index (pt t) 1 = 0 := by decide +kernel
theorem row4 : ∀ t : Fin 16, win0_4.index (pt t) 0 = t.val ∧ win0_4.index (pt t) 1 = 0 := by decide +kernel
theorem row5 : ∀ t : Fin 16, win0_5.index (pt t) 0 = 0 ∧ win0_5.index (pt t) 1 = 0 ∧ win0_5.index (pt t) 2 = 0 := by decide +kernel
theorem row6 : ∀ t : Fin 16, win0_6.index (pt t) 0 = t.val ∧ win0_6.index (pt t) 1 = 0 := by decide +kernel
theorem row7 : ∀ t : Fin 16, win0_7.index (pt t) 0 = t.val ∧ win0_7.index (pt t) 1 = 0 := by decide +kernel
theorem row8 : ∀ t : Fin 16, win0_8.index (pt t) 0 = 0 ∧ win0_8.index (pt t) 1 = 0 := by decide +kernel
theorem row9 : ∀ t : Fin 16, win0_9.index (pt t) 0 = t.val ∧ win0_9.index (pt t) 1 = 0 := by decide +kernel

/-- An index at which a block of 512 rows is read: its row is the block's first row plus its own. -/
theorem at_row {n : ℕ} {x : (⟨2, ![8192, n]⟩ : Shape).Idx} {t : Fin 16} {k : Fin 512} {i : Fin n} {a b : ℕ} (h : a = t.val ∧ b = 0)
    (h0 : (x 0 : ℕ) = a * 512 + 1 * k.val) (h1 : (x 1 : ℕ) = b * n + 1 * i.val) :
    x = ix2 ⟨512 * t.val + k.val, by omega⟩ i :=
  Shape.idx_ext₂ (by show (x 0 : ℕ) = 512 * t.val + k.val; omega)
    (by show (x 1 : ℕ) = i.val; rw [h1, h.2, Nat.zero_mul, Nat.zero_add, Nat.one_mul])

variable (c : Dev nD) (t : Fin 16) (k : Fin 512)

theorem blk0 (i : Fin 3072) : (iblk m c 0 (pt t) : Vec Ideal S512x3072 .bf16) (ix2 k i)
    = (m ((c : Thread nD τ).loc main_arg0) : Cert.Grad.Big) (ix2 ⟨512 * t.val + k.val, by omega⟩ i) := by
  unfold iblk; rw [View.read_apply]
  exact congrArg (m ((c : Thread nD τ).loc main_arg0)) (at_row (row0 t) rfl rfl)
theorem blk1 (i : Fin 1024) : (iblk m c 1 (pt t) : Vec Ideal S512x1024 .bf16) (ix2 k i)
    = (m ((c : Thread nD τ).loc main_arg1) : Cert.Grad.Mid) (ix2 ⟨512 * t.val + k.val, by omega⟩ i) := by
  unfold iblk; rw [View.read_apply]
  exact congrArg (m ((c : Thread nD τ).loc main_arg1)) (at_row (row1 t) rfl rfl)
theorem blk2 (i : Fin 1024) : (iblk m c 2 (pt t) : Vec Ideal S512x1024 .bf16) (ix2 k i)
    = (m ((c : Thread nD τ).loc main_arg2) : Cert.Grad.Mid) (ix2 ⟨512 * t.val + k.val, by omega⟩ i) := by
  unfold iblk; rw [View.read_apply]
  exact congrArg (m ((c : Thread nD τ).loc main_arg2)) (at_row (row2 t) rfl rfl)
theorem blk3 (i : Fin 512) : (iblk m c 3 (pt t) : Vec Ideal S512x512 .bf16) (ix2 k i)
    = (m ((c : Thread nD τ).loc main_arg3) : Cert.Grad.Small) (ix2 ⟨512 * t.val + k.val, by omega⟩ i) := by
  unfold iblk; rw [View.read_apply]
  exact congrArg (m ((c : Thread nD τ).loc main_arg3)) (at_row (row3 t) rfl rfl)
theorem blk4 (i : Fin 3072) : (iblk m c 4 (pt t) : Vec Ideal S512x3072 .bf16) (ix2 k i)
    = (m ((c : Thread nD τ).loc main_arg4) : Cert.Grad.Big) (ix2 ⟨512 * t.val + k.val, by omega⟩ i) := by
  unfold iblk; rw [View.read_apply]
  exact congrArg (m ((c : Thread nD τ).loc main_arg4)) (at_row (row4 t) rfl rfl)
theorem blk5 : (iblk m c 5 (pt t) : Vec Ideal S4x1024x2176 .bf16) = (m ((c : Thread nD τ).loc main_arg5) : Cert.Grad.Weights) := by
  funext y
  unfold iblk; rw [View.read_apply]
  refine congrArg (m ((c : Thread nD τ).loc main_arg5)) (funext fun a => Fin.ext ?_)
  obtain ⟨h0, h1, h2⟩ := row5 t
  match a with
  | ⟨0, _⟩ => show win0_5.index (pt t) 0 * 4 + 1 * (y 0).val = (y 0).val; omega
  | ⟨1, _⟩ => show win0_5.index (pt t) 1 * 1024 + 1 * (y 1).val = (y 1).val; omega
  | ⟨2, _⟩ => show win0_5.index (pt t) 2 * 2176 + 1 * (y 2).val = (y 2).val; omega
theorem blk6 (i : Fin 1024) : (iblk m c 6 (pt t) : Vec Ideal S512x1024 .f32) (ix2 k i)
    = (m ((c : Thread nD τ).loc main_arg6) : Cert.Grad.Rows) (ix2 ⟨512 * t.val + k.val, by omega⟩ i) := by
  unfold iblk; rw [View.read_apply]
  exact congrArg (m ((c : Thread nD τ).loc main_arg6)) (at_row (row6 t) rfl rfl)
theorem blk7 (i : Fin 1024) : (iblk m c 7 (pt t) : Vec Ideal S512x1024 .f32) (ix2 k i)
    = (m ((c : Thread nD τ).loc main_arg7) : Cert.Grad.Rows) (ix2 ⟨512 * t.val + k.val, by omega⟩ i) := by
  unfold iblk; rw [View.read_apply]
  exact congrArg (m ((c : Thread nD τ).loc main_arg7)) (at_row (row7 t) rfl rfl)
theorem blk8 (i : Fin 1024) :
    View.ld (iblk m c 8 (pt t) : Vec Ideal S1x1024 .f32) (Rect.unit (s := S1x1024) ![0, 0] ![1, 1024] inb_S1x1024_S1x1024_0_0) (ix2 0 i)
      = (m ((c : Thread nD τ).loc main_arg8) : Vec Ideal S1x1024 .f32) (ix2 0 i) := by
  rw [View.ld_unit_zero (S := S1x1024) zeros]
  unfold iblk; rw [View.read_apply]
  refine congrArg (m ((c : Thread nD τ).loc main_arg8)) (Shape.idx_ext₂ ?_ ?_)
  · show win0_8.index (pt t) 0 * 1 + 1 * 0 = 0; rw [(row8 t).1]
  · show win0_8.index (pt t) 1 * 1024 + 1 * i.val = i.val; rw [(row8 t).2]; omega

/-! ## A point's values -/

/-- The point's gradient of its normalised rows. -/
def grad : FVec Ideal S512x1024 .f32 :=
  dxn (iblk m c 0 (pt t)) (iblk m c 1 (pt t)) (iblk m c 2 (pt t)) (iblk m c 3 (pt t)) (iblk m c 4 (pt t)) (iblk m c 5 (pt t))

/-- Row `i`'s gradient in the whole arrays. -/
def back (i : Fin 8192) (j : Fin 1024) : EReal :=
  Cert.Grad.back (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) i j

theorem grad_eq (j : Fin 1024) : grad m c t (ix2 k j) = back m c ⟨512 * t.val + k.val, by omega⟩ j := by
  unfold grad
  rw [dxn_apply]
  unfold back Cert.Grad.back
  simp only [blk0, blk1, blk2, blk3, blk4, blk5]

theorem scale_eq : (Cert.Row.scale fun j => (iblk m c 6 (pt t) : Vec Ideal S512x1024 .f32) (ix2 k j))
    = Cert.Grad.scale (m ((c : Thread nD τ).loc main_arg6)) ⟨512 * t.val + k.val, by omega⟩ := by
  unfold Cert.Grad.scale
  simp only [blk6]

/-- The first result. -/
def rowsOut : Cert.Grad.Rows :=
  Cert.Grad.rows (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The second result. -/
def weightsOut : Vec Ideal S8x1024 .f32 :=
  Cert.Grad.weights (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The first result, block by block -/

theorem rows_at (j : Fin 1024) : (outsAt0 m c (pt t).val (pt t).isLt).1 (ix2 k j)
    = rowsOut m c (ix2 ⟨512 * t.val + k.val, by omega⟩ j) := by
  rw [rows m c (pt t)]
  refine (gx_apply (grad m c t) _ _ _ k j).trans ?_
  rw [scale_eq]
  simp only [grad_eq, blk6, blk7, blk8]
  rfl

theorem flushed9_eq (p : Fin cfg0.N) : (dats m 0 c).flushed 9 p = ((cfg0.win 9).blk p).view.read (Elt Ideal) (rowsOut m c) := by
  obtain ⟨t, rfl⟩ : ∃ t : Fin 16, p = pt t := ⟨⟨p.val, lt_of_lt_of_eq p.isLt points⟩, rfl⟩
  rw [flushed9]
  funext y
  rw [View.read_apply]
  obtain ⟨k, j, rfl⟩ : ∃ (k : Fin 512) (j : Fin 1024), y = ix2 k j := ⟨y 0, y 1, eq_ix2 y⟩
  exact (rows_at m c t k j).trans (congrArg (rowsOut m c) (at_row (row9 t) rfl rfl).symm)

theorem result9 : (dats m 0 c).arrAt 9 cfg0.N = rowsOut m c :=
  (dats m 0 c).arrAt_eq_of_cover 9 _ (fun p _ => flushed9_eq m c p) fun i => by
    have h0 : (i 0 : ℕ) < 8192 := (i 0).isLt
    have h1 : (i 1 : ℕ) < 1024 := (i 1).isLt
    let t : Fin 16 := ⟨(i 0 : ℕ) / 512, by omega⟩
    refine ⟨pt t, flush0_9 _, ?_⟩
    show i ∈ ((View.whole main_v0_0).slice (win0_9.rect (pt t))).set
    rw [View.set_slice_whole, Rect.mem_set_unit]
    obtain ⟨e0, e1⟩ := row9 t
    intro a
    match a with
    | 0 =>
      show win0_9.index (pt t) 0 * 512 ≤ (i 0 : ℕ) ∧ (i 0 : ℕ) < win0_9.index (pt t) 0 * 512 + 512
      rw [e0]; show (i 0 : ℕ) / 512 * 512 ≤ (i 0 : ℕ) ∧ (i 0 : ℕ) < (i 0 : ℕ) / 512 * 512 + 512; omega
    | 1 =>
      show win0_9.index (pt t) 1 * 1024 ≤ (i 1 : ℕ) ∧ (i 1 : ℕ) < win0_9.index (pt t) 1 * 1024 + 1024
      rw [e1]; omega

/-! ## The second result, added up over the points -/

/-- The second output block after point `t`. -/
def accs : Vec Ideal S8x1024 .f32 := (outsAt0 m c (pt t).val (pt t).isLt).2

/-- The array that is normalised. -/
abbrev input : Cert.Grad.Rows := m ((c : Thread nD τ).loc main_arg6)

/-- What point `t` adds. -/
def step (i : Fin 8) (j : Fin 1024) : EReal :=
  if i.val = 0 then ∑ r : Fin 512, back m c ⟨512 * t.val + r.val, by omega⟩ j
    * (input m c (ix2 ⟨512 * t.val + r.val, by omega⟩ j) * Cert.Grad.scale (input m c) ⟨512 * t.val + r.val, by omega⟩) else 0

theorem step_eq (acc : Vec Ideal S8x1024 .f32) (i : Fin 8) (j : Fin 1024) :
    k0_pay2 (grad m c t) (k0_pay8 (iblk m c 6 (pt t))) acc (ix2 i j) = acc (ix2 i j) + step m c t i j := by
  rw [step_apply]
  unfold step
  refine congrArg (fun v => acc (ix2 i j) + if i.val = 0 then v else 0) (Finset.sum_congr rfl fun r _ => ?_)
  rw [grad_eq, normed_apply, scale_eq, blk6]

theorem accs_zero (i : Fin 8) (j : Fin 1024) : accs m c 0 (ix2 i j) = step m c 0 i j := by
  unfold accs
  rw [first m c (pt 0) rfl]
  refine (step_eq m c 0 (k0_pay3 (F := Ideal)) i j).trans ?_
  rw [show (k0_pay3 : FVec Ideal S8x1024 .f32) (ix2 i j) = 0 from Ideal.ofBits_zero_f32, zero_add]

theorem accs_succ (t : Fin 15) (i : Fin 8) (j : Fin 1024) :
    accs m c t.succ (ix2 i j) = accs m c t.castSucc (ix2 i j) + step m c t.succ i j := by
  unfold accs
  rw [later m c (pt t.succ) (by have := t.isLt; show ¬(t.val + 1) % 16 = 0; omega)]
  exact step_eq m c t.succ _ i j

theorem last : accs m c (Fin.last 15) = weightsOut m c := by
  funext y
  obtain ⟨i, j, rfl⟩ : ∃ (i : Fin 8) (j : Fin 1024), y = ix2 i j := ⟨y 0, y 1, eq_ix2 y⟩
  refine (Cert.Sums.running (n := 15) (fun t => accs m c t (ix2 i j)) (fun t => step m c t i j) (accs_zero m c i j)
    fun t => accs_succ m c t i j).trans ?_
  show _ = if i.val = 0 then ∑ r : Fin 8192, _ else 0
  unfold step
  by_cases h : i.val = 0
  · simp only [if_pos h]
    exact Cert.Sums.fin_blocks 16 512 8192 rfl fun r => back m c r j * (input m c (ix2 r j)
      * Cert.Grad.scale (input m c) r)
  · simp only [if_neg h, Finset.sum_const_zero]

/-- The last point. -/
abbrev tl : Fin cfg0.N := pt (Fin.last 15)

theorem flushed10_eq (p : Fin cfg0.N) (hf : (cfg0.win 10).flush p = true) :
    (dats m 0 c).flushed 10 p = ((cfg0.win 10).blk p).view.read (Elt Ideal) (weightsOut m c) := by
  obtain rfl : p = tl := Fin.ext (by have := (flush0_10 p).mp hf; have := lt_of_lt_of_eq p.isLt points; show p.val = 15; omega)
  rw [flushed10, show (outsAt0 m c tl.val tl.isLt).2 = _ from last m c]
  have hz : (fun a => win0_10.index tl a * main_v0_1.ty.shape.size a) = fun _ => 0 := funext fun a => by fin_cases a <;> decide
  exact (Memref.read_access_unit_zero (Elt Ideal) main_v0_1 hz (fun a => by rw [congrFun hz a]; simp) (weightsOut m c)).symm

theorem start10 : win0_10.index tl 0 = 0 ∧ win0_10.index tl 1 = 0 := by decide +kernel

theorem result10 : (dats m 0 c).arrAt 10 cfg0.N = weightsOut m c :=
  (dats m 0 c).arrAt_eq_of_cover 10 _ (flushed10_eq m c) fun i => ⟨tl, (flush0_10 tl).mpr rfl, by
    show i ∈ ((View.whole main_v0_1).slice (win0_10.rect tl)).set
    rw [View.set_slice_whole, Rect.mem_set_unit]
    have h0 : (i 0 : ℕ) < 8 := (i 0).isLt
    have h1 : (i 1 : ℕ) < 1024 := (i 1).isLt
    obtain ⟨e0, e1⟩ := start10
    intro a
    match a with
    | 0 => show win0_10.index tl 0 * 8 ≤ (i 0 : ℕ) ∧ (i 0 : ℕ) < win0_10.index tl 0 * 8 + 8; rw [e0]; omega
    | 1 => show win0_10.index tl 1 * 1024 ≤ (i 1 : ℕ) ∧ (i 1 : ℕ) < win0_10.index tl 1 * 1024 + 1024; rw [e1]; omega⟩

end Cert.KernelIdeal.Whole

end
-- ==== Proof.Refer.lean ====
/- The reference's data gradient over the extended reals: the same sums over the whole arrays. -/
module

public import proofs.«01_k».proof.Proof.Grad
public import proofs.«01_k».proof.Proof.Sums
public import proofs.«01_k».proof.Proof.Gen.ReferenceIdeal.Run

@[expose] public section

noncomputable section

open Idealize.ShloMosaic Idealize.ShloMosaic.TcCoe Idealize.SL.Sem Idealize.ShloMosaic.ValueIdx
open Cert.Grad (Big Mid Small Weights Rows)
open scoped BigOperators

namespace Cert.ReferenceIdeal.Refer

open Cert.ReferenceIdeal Cert.ReferenceIdeal.Gen Cert.ReferenceIdeal.Value

/-! ## The product of the gradients with the weights -/

section Product
variable (p0 : Big) (p1 p2 : Mid) (p3 : Small) (p4 : Big) (w : Weights)

/-- The five gradients side by side. -/
def joined : Vec Ideal S8192x8704 .bf16 :=
  concatenate S8192x8704 1 [⟨S8192x3072, p0⟩, ⟨S8192x1024, p1⟩, ⟨S8192x1024, p2⟩, ⟨S8192x512, p3⟩, ⟨S8192x3072, p4⟩]
    concatenates_S8192x3072_S8192x1024_S8192x1024_S8192x512_S8192x3072_S8192x8704_d1

theorem joined_apply (i : Fin 8192) (c : Fin 8704) : joined p0 p1 p2 p3 p4 (ix2 i c)
    = Cert.Columns.piece (fun j => p0 (ix2 i j)) (fun j => p1 (ix2 i j)) (fun j => p2 (ix2 i j)) (fun j => p3 (ix2 i j))
        (fun j => p4 (ix2 i j)) c.val := by
  unfold joined
  have off : ∀ b : Fin 2, b ≠ 1 → b = 0 := by decide
  by_cases h0 : c.val < 3072
  · rw [Cert.Columns.piece0 ⟨c.val, h0⟩ rfl]
    exact concatenate_apply_piece (t := S8192x8704) 1 _ _ _ 0 (by show 0 < 5; omega) S8192x3072 p0 rfl rfl 0 rfl (ix2 i ⟨c.val, h0⟩)
      (fun b hb => by obtain rfl := off b hb; rfl) (Nat.zero_add _)
  by_cases h1 : c.val < 4096
  · rw [Cert.Columns.piece1 ⟨c.val - 3072, by omega⟩ (by dsimp only; omega)]
    exact concatenate_apply_piece (t := S8192x8704) 1 _ _ _ 1 (by show 1 < 5; omega) S8192x1024 p1 rfl rfl 3072 rfl (ix2 i ⟨c.val - 3072, by omega⟩)
      (fun b hb => by obtain rfl := off b hb; rfl) (by show 3072 + (c.val - 3072) = c.val; omega)
  by_cases h2 : c.val < 5120
  · rw [Cert.Columns.piece2 ⟨c.val - 4096, by omega⟩ (by dsimp only; omega)]
    exact concatenate_apply_piece (t := S8192x8704) 1 _ _ _ 2 (by show 2 < 5; omega) S8192x1024 p2 rfl rfl 4096 rfl (ix2 i ⟨c.val - 4096, by omega⟩)
      (fun b hb => by obtain rfl := off b hb; rfl) (by show 4096 + (c.val - 4096) = c.val; omega)
  by_cases h3 : c.val < 5632
  · rw [Cert.Columns.piece3 ⟨c.val - 5120, by omega⟩ (by dsimp only; omega)]
    exact concatenate_apply_piece (t := S8192x8704) 1 _ _ _ 3 (by show 3 < 5; omega) S8192x512 p3 rfl rfl 5120 rfl (ix2 i ⟨c.val - 5120, by omega⟩)
      (fun b hb => by obtain rfl := off b hb; rfl) (by show 5120 + (c.val - 5120) = c.val; omega)
  · rw [Cert.Columns.piece4 ⟨c.val - 5632, by omega⟩ (by dsimp only; omega)]
    exact concatenate_apply_piece (t := S8192x8704) 1 _ _ _ 4 (by show 4 < 5; omega) S8192x3072 p4 rfl rfl 5632 rfl (ix2 i ⟨c.val - 5632, by omega⟩)
      (fun b hb => by obtain rfl := off b hb; rfl) (by show 5632 + (c.val - 5632) = c.val; omega)

/-- The weights' groups side by side. -/
def flat : FVec Ideal S1024x8704 .f32 :=
  shapeCast S1024x8704 (transpose S1024x4x2176 [1, 0, 2] (extf (F := Ideal) .f32 (w : Vec Ideal S4x1024x2176 .bf16) bitsLt_bf16_f32)
    transposes_S4x1024x2176_S1024x4x2176_1_0_2) shapeCasts_S1024x4x2176_S1024x8704

theorem flat_apply (k : Fin 1024) (c : Fin 8704) :
    flat w (ix2 k c) = Cert.Columns.weight (fun g j => w (ix3 g k j)) c.val := by
  unfold flat
  rw [Cert.Columns.weight_at ⟨c.val / 2176, by omega⟩ ⟨c.val % 2176, by omega⟩ (by dsimp only; omega),
    shapeCast_apply _ _ _ (ix3 k ⟨c.val / 2176, by omega⟩ ⟨c.val % 2176, by omega⟩) (by
      rw [Shape.rowMajor_val_two, Shape.rowMajor_val_three]
      show (k.val * 4 + c.val / 2176) * 2176 + c.val % 2176 = k.val * 8704 + c.val
      omega),
    transpose_apply [1, 0, 2] _ _ _ (ix3 ⟨c.val / 2176, by omega⟩ k ⟨c.val % 2176, by omega⟩)
      fun b => by match b with | 0 => rfl | 1 => rfl | 2 => rfl]
  rfl

/-- The product. -/
def product : FVec Ideal S8192x1024 .f32 :=
  Host.dotGeneral dot_S8192x8704_S1024x8704_S8192x1024_1_1_0_0_n_n none
    (extf (F := Ideal) .f32 (joined p0 p1 p2 p3 p4) bitsLt_bf16_f32) (flat w)

theorem product_apply (i : Fin 8192) (k : Fin 1024) : product p0 p1 p2 p3 p4 w (ix2 i k) = Cert.Grad.back p0 p1 p2 p3 p4 w i k := by
  unfold product Cert.Grad.back
  simp only [Host.dotGeneral]
  rw [Ideal.dotGeneral_apply, Cert.Sums.contracted _ 8704 rfl rfl]
  refine Finset.sum_congr rfl fun c _ => ?_
  rw [show dot_S8192x8704_S1024x8704_S8192x1024_1_1_0_0_n_n.lhsIdx (ix2 i k) ((contrEquiv1 _ 8704 rfl rfl).symm c) = ix2 i c
      from Shape.idx_ext₂ rfl rfl,
    show dot_S8192x8704_S1024x8704_S8192x1024_1_1_0_0_n_n.rhsIdx (ix2 i k) ((contrEquiv1 _ 8704 rfl rfl).symm c) = ix2 k c
      from Shape.idx_ext₂ rfl rfl]
  exact congrArg₂ (· * ·) (joined_apply p0 p1 p2 p3 p4 i c) (flat_apply w k c)

end Product

/-! ## The normalisation -/

/-- A row's sum. -/
theorem sumRow (v : FVec Ideal S8192x1024 .f32) (i : Fin 8192) :
    Host.reduceAdd v (constant (F := Ideal) S_ .f32 0x00000000#32) reducesTo_S8192x1024_S8192_d1 h_S_ (ix1 i) = ∑ j : Fin 1024, v (ix2 i j) := by
  unfold Host.reduceAdd
  rw [Ideal.hostReduceAdd_def, Ideal.hostReduceAdd_single _ (by decide : S8192x1024.Reduces [1] S8192)]
  refine (congrArg (· + _) Ideal.ofBits_zero_f32).trans ((zero_add _).trans (Finset.sum_congr rfl fun j _ => ?_))
  exact congrArg v (Shape.idx_ext₂ rfl rfl)

/-- A column's sum. -/
theorem sumColumn (v : FVec Ideal S8192x1024 .f32) (k : Fin 1024) :
    Host.reduceAdd v (constant (F := Ideal) S_ .f32 0x00000000#32) reducesTo_S8192x1024_S1024_d0 h_S_ (ix1 k) = ∑ i : Fin 8192, v (ix2 i k) := by
  unfold Host.reduceAdd
  rw [Ideal.hostReduceAdd_def, Ideal.hostReduceAdd_single _ (by decide : S8192x1024.Reduces [0] S1024)]
  refine (congrArg (· + _) Ideal.ofBits_zero_f32).trans ((zero_add _).trans (Finset.sum_congr rfl fun j _ => ?_))
  exact congrArg v (Shape.idx_ext₂ rfl rfl)

/-- A sum over an axis of one. -/
theorem sumOne (v : FVec Ideal S8192x1 .f32) (i : Fin 8192) :
    Host.reduceAdd v (constant (F := Ideal) S_ .f32 0x00000000#32) reducesTo_S8192x1_S8192_d1 h_S_ (ix1 i) = v (ix2 i 0) := by
  unfold Host.reduceAdd
  rw [Ideal.hostReduceAdd_def, Ideal.hostReduceAdd_single _ (by decide : S8192x1.Reduces [1] S8192)]
  refine (congrArg (· + _) Ideal.ofBits_zero_f32).trans ((zero_add _).trans ((Fin.sum_univ_one _).trans ?_))
  exact congrArg v (Shape.idx_ext₂ rfl rfl)

/-- A scalar spread over a column. -/
theorem spread (b : BitVec 32) (y : S8192x1.Idx) :
    broadcastInDim S8192x1 ![] bcast_S_S8192x1 (constant (F := Ideal) S_ .f32 b) y = Ideal.ofBits .f32 b := rfl

/-- What stands under the roots. -/
def under (x : Rows) : FVec Ideal S8192x1 .f32 :=
  addf (Host.divf (broadcastInDim S8192x1 ![0] bcast_S8192_S8192x1_0 (Host.reduceAdd (mulf (x : FVec Ideal S8192x1024 .f32) x)
    (constant S_ .f32 0x00000000#32) reducesTo_S8192x1024_S8192_d1 h_S_)) (broadcastInDim S8192x1 ![] bcast_S_S8192x1
    (constant S_ .f32 0x44800000#32))) (broadcastInDim S8192x1 ![] bcast_S_S8192x1 (constant S_ .f32 0x358637BD#32))

theorem under_apply (x : Rows) (i : Fin 8192) (z : Fin 1) : under x (ix2 i z) = Cert.Row.var fun j => x (ix2 i j) := by
  have e : broadcastInDim S8192x1 ![0] bcast_S8192_S8192x1_0 (Host.reduceAdd (F := Ideal) (φ := .f32) (mulf (x : FVec Ideal S8192x1024 .f32) x)
      (constant S_ .f32 0x00000000#32) reducesTo_S8192x1024_S8192_d1 h_S_) (ix2 i z)
        = (∑ j, x (ix2 i j) * x (ix2 i j) : EReal) := by
    rw [broadcastInDim_apply _ _ _ _ (ix1 i) fun a => by match a with | 0 => rfl]
    exact sumRow _ i
  exact congrArg (fun v => Ideal.div v (Ideal.ofBits .f32 0x44800000#32) + Ideal.ofBits .f32 0x358637BD#32) e

theorem root_apply (x : Rows) (i : Fin 8192) (z : Fin 1) : (Host.rsqrt (under x)) (ix2 i z) = Cert.Grad.scale x i :=
  congrArg Ideal.rsqrt (under_apply x i z)

/-- The rows' corrections. -/
def correction (x : Rows) (d : FVec Ideal S8192x1024 .f32) : FVec Ideal S8192 .f32 :=
  Host.reduceAdd (Host.divf (mulf (shapeCast S8192x1 (Host.reduceAdd (mulf (x : FVec Ideal S8192x1024 .f32) d)
    (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (under x)) (under x))))
    (broadcastInDim S8192x1 ![] bcast_S_S8192x1 (constant S_ .f32 0x44800000#32)))
    (constant S_ .f32 0x00000000#32) reducesTo_S8192x1_S8192_d1 h_S_

theorem correction_apply (x : Rows) (d : FVec Ideal S8192x1024 .f32) (i : Fin 8192) :
    correction x d (ix1 i) = Cert.Row.corr (fun j => x (ix2 i j)) fun j => d (ix2 i j) := by
  unfold correction
  rw [sumOne]
  unfold Cert.Row.corr
  refine congrArg (fun v => Ideal.div v _) (congrArg₂ (fun a b => a * (_ * b)) ?_ (congrArg₂ Ideal.div (root_apply x i 0) (under_apply x i 0)))
  rw [shapeCast_apply _ _ _ (ix1 i) (by rw [Shape.rowMajor_val_two, Shape.rowMajor_val_one]; simp)]
  exact sumRow _ i

/-! ## The two results -/

variable (m : (ℓ : Loc nD τ sig) → Buf (Elt Ideal) ℓ) (c : Dev nD)

/-- The first result from its parts. -/
def parts (y x : Rows) (p : FVec Ideal S8192x1024 .f32) (nw : Vec Ideal S1x1024 .f32) : FVec Ideal S8192x1024 .f32 :=
  addf (y : FVec Ideal S8192x1024 .f32) (addf (addf (mulf (mulf p (broadcastInDim S8192x1024 ![0, 1] bcast_S1x1024_S8192x1024_0_1 nw))
    (broadcastInDim S8192x1024 ![0, 1] bcast_S8192x1_S8192x1024_0_1 (Host.rsqrt (under x))))
    (mulf (x : FVec Ideal S8192x1024 .f32) (broadcastInDim S8192x1024 ![0] bcast_S8192_S8192x1024_0
      (correction x (mulf p (broadcastInDim S8192x1024 ![0, 1] bcast_S1x1024_S8192x1024_0_1 nw))))))
    (mulf (broadcastInDim S8192x1024 ![0] bcast_S8192_S8192x1024_0
      (correction x (mulf p (broadcastInDim S8192x1024 ![0, 1] bcast_S1x1024_S8192x1024_0_1 nw)))) (x : FVec Ideal S8192x1024 .f32)))

theorem parts_apply (y x : Rows) (p : FVec Ideal S8192x1024 .f32) (nw : Vec Ideal S1x1024 .f32) (i : Fin 8192) (k : Fin 1024) :
    parts y x p nw (ix2 i k) = y (ix2 i k) + Cert.Grad.scale x i * (p (ix2 i k) * nw (ix2 0 k) - x (ix2 i k) * Cert.Grad.scale x i
      * Ideal.div (∑ j, p (ix2 i j) * nw (ix2 0 j) * (x (ix2 i j) * Cert.Grad.scale x i)) (Ideal.ofBits .f32 0x44800000#32)) := by
  have hn : ∀ j, mulf p (broadcastInDim S8192x1024 ![0, 1] bcast_S1x1024_S8192x1024_0_1 nw) (ix2 i j) = p (ix2 i j) * nw (ix2 0 j) :=
    fun j => congrArg (p (ix2 i j) * ·) (broadcastInDim_apply _ _ _ _ (ix2 0 j) fun a => by match a with | 0 => rfl | 1 => rfl)
  have hc : broadcastInDim S8192x1024 ![0] bcast_S8192_S8192x1024_0
      (correction x (mulf p (broadcastInDim S8192x1024 ![0, 1] bcast_S1x1024_S8192x1024_0_1 nw))) (ix2 i k)
      = Cert.Row.corr (fun j => x (ix2 i j)) fun j => p (ix2 i j) * nw (ix2 0 j) := by
    rw [broadcastInDim_apply _ _ _ _ (ix1 i) fun a => by match a with | 0 => rfl]
    exact (correction_apply x _ i).trans (congrArg _ (funext hn))
  refine congrArg (y (ix2 i k) + ·) (Eq.trans ?_ (Cert.Row.row (fun j => x (ix2 i j)) (fun j => p (ix2 i j) * nw (ix2 0 j)) k).symm)
  refine congrArg₂ (· + ·) (congrArg₂ (· + ·) (congrArg₂ (· * ·) (hn k) ?_) (congrArg (x (ix2 i k) * ·) hc)) (congrArg (· * x (ix2 i k)) hc)
  rw [broadcastInDim_apply _ _ _ _ (ix2 i 0) fun a => by match a with | 0 => rfl | 1 => rfl]
  exact root_apply x i 0

theorem rows_eq : res_main_v41 m c = Cert.Grad.rows (m (c.tc.loc main_arg0)) (m (c.tc.loc main_arg1)) (m (c.tc.loc main_arg2))
    (m (c.tc.loc main_arg3)) (m (c.tc.loc main_arg4)) (m (c.tc.loc main_arg5)) (m (c.tc.loc main_arg6)) (m (c.tc.loc main_arg7))
    (m (c.tc.loc main_arg8)) := by
  have e : res_main_v41 m c = parts (m (c.tc.loc main_arg7)) (m (c.tc.loc main_arg6)) (product (m (c.tc.loc main_arg0))
    (m (c.tc.loc main_arg1)) (m (c.tc.loc main_arg2)) (m (c.tc.loc main_arg3)) (m (c.tc.loc main_arg4)) (m (c.tc.loc main_arg5)))
    (m (c.tc.loc main_arg8)) := rfl
  rw [e]
  funext z
  obtain ⟨i, k, rfl⟩ : ∃ (i : Fin 8192) (k : Fin 1024), z = ix2 i k := ⟨z 0, z 1, eq_ix2 z⟩
  refine (parts_apply _ _ _ _ i k).trans ?_
  simp only [product_apply]
  rfl

/-- The second result from its parts. -/
def padded (x : Rows) (p : FVec Ideal S8192x1024 .f32) : FVec Ideal S8x1024 .f32 :=
  pad S8x1024 ![0, 0] ![7, 0] ![0, 0] (shapeCast S1x1024 (Host.reduceAdd (mulf (mulf (x : FVec Ideal S8192x1024 .f32)
    (broadcastInDim S8192x1024 ![0, 1] bcast_S8192x1_S8192x1024_0_1 (Host.rsqrt (under x)))) p)
    (constant S_ .f32 0x00000000#32) reducesTo_S8192x1024_S1024_d0 h_S_) shapeCasts_S1024_S1x1024)
    (sitofp .f32 (constantI S_ 32 0#32)) pads_S1x1024_S8x1024_070_000 h_S_

theorem padded_apply (x : Rows) (p : FVec Ideal S8192x1024 .f32) (i : Fin 8) (k : Fin 1024) : padded x p (ix2 i k)
    = if i.val = 0 then ∑ r : Fin 8192, p (ix2 r k) * (x (ix2 r k) * Cert.Grad.scale x r) else 0 := by
  unfold padded pad
  by_cases h : i.val = 0
  · rw [if_pos h, dif_pos fun a => by
      match a with
      | 0 => show 0 ≤ i.val ∧ (i.val - 0) % (0 + 1) = 0 ∧ (i.val - 0) / (0 + 1) < 1; omega
      | 1 => show 0 ≤ k.val ∧ (k.val - 0) % (0 + 1) = 0 ∧ (k.val - 0) / (0 + 1) < 1024; omega]
    rw [shapeCast_apply _ _ _ (ix1 k) (by
      rw [Shape.rowMajor_val_two, Shape.rowMajor_val_one]
      show k.val = (i.val - 0) / (0 + 1) * 1024 + (k.val - 0) / (0 + 1)
      omega)]
    refine (sumColumn _ k).trans (Finset.sum_congr rfl fun r _ => ?_)
    refine (mul_comm _ _).trans (congrArg (fun v => p (ix2 r k) * (x (ix2 r k) * v)) ?_)
    rw [broadcastInDim_apply _ _ _ _ (ix2 r 0) fun a => by match a with | 0 => rfl | 1 => rfl]
    exact root_apply x r 0
  · rw [if_neg h, dif_neg fun hin => h (by
      have := (hin 0).2.2
      change (i.val - 0) / (0 + 1) < 1 at this
      omega)]
    show (((0#32 : BitVec 32).toInt : ℝ) : EReal) = 0
    simp

theorem weights_eq : padded (m (c.tc.loc main_arg6)) (product (m (c.tc.loc main_arg0)) (m (c.tc.loc main_arg1)) (m (c.tc.loc main_arg2))
    (m (c.tc.loc main_arg3)) (m (c.tc.loc main_arg4)) (m (c.tc.loc main_arg5)))
    = Cert.Grad.weights (m (c.tc.loc main_arg0)) (m (c.tc.loc main_arg1)) (m (c.tc.loc main_arg2))
    (m (c.tc.loc main_arg3)) (m (c.tc.loc main_arg4)) (m (c.tc.loc main_arg5)) (m (c.tc.loc main_arg6)) := by
  funext z
  obtain ⟨i, k, rfl⟩ : ∃ (i : Fin 8) (k : Fin 1024), z = ix2 i k := ⟨z 0, z 1, eq_ix2 z⟩
  refine (padded_apply _ _ i k).trans ?_
  simp only [product_apply]
  rfl

end Cert.ReferenceIdeal.Refer

end
-- ==== Proof.GradClaim.lean ====
/- The data gradient's call and its reference end with equal results over the extended reals. -/
module

public import proofs.«01_k».proof.Proof.Whole
public import proofs.«01_k».proof.Proof.Refer
public import proofs.«01_k».proof.Defs

@[expose] public section

noncomputable section

open Idealize.ShloMosaic Idealize.ShloMosaic.TcCoe Idealize.SL.Sem

namespace Cert.Proof

theorem algebraic : Cert.algebraic_KernelIdeal_ReferenceIdeal := by
  intro m ρ m' ρ' _ h
  refine ⟨fun c => Cert.KernelIdeal.Whole.rowsOut m c, fun c => Cert.KernelIdeal.Whole.weightsOut m c, ?_, ?_⟩
  · exact (θ_run Cert.KernelIdeal.defs _ _).mono (fun r g c => ⟨(g c).1.trans (Cert.KernelIdeal.Whole.result9 m c),
      (g c).2.1.trans (Cert.KernelIdeal.Whole.result10 m c), (g c).2.2⟩) (Cert.KernelIdeal.Value.run_blocks m ρ)
  · refine (θ_run Cert.ReferenceIdeal.defs _ _).mono (fun r g c => ?_) (Cert.ReferenceIdeal.Value.run m' ρ')
    obtain ⟨h0, h1, h2, h3, h4, h5, h6, h7, h8, _⟩ := h c
    refine ⟨(g c).1.trans ?_, (g c).2.1.trans ?_, (g c).2.2⟩
    · refine (Cert.ReferenceIdeal.Refer.rows_eq m' c).trans ?_
      rw [h0, h1, h2, h3, h4, h5, h6, h7, h8]
      rfl
    · refine Eq.trans rfl ((Cert.ReferenceIdeal.Refer.weights_eq m' c).trans ?_)
      rw [h0, h1, h2, h3, h4, h5, h6]
      rfl

end Cert.Proof

end
-- ==== Proof.Gates.lean ====
/- What the gates' weight gradient call leaves: its columns of the gradient hold the product, the other columns are as they were. -/
module

public import proofs.«01_k».proof.Proof.Entry
public import proofs.«01_k».proof.Proof.Gen.Kernel4Ideal.Value
public import Idealize.ShloMosaic.Lib.Tactic

@[expose] public section

noncomputable section

open Idealize.ShloMosaic Idealize.ShloMosaic.TcCoe Idealize.SL.Sem Idealize.ShloMosaic.ValueIdx
open scoped BigOperators

namespace Cert.Kernel4Ideal.Gates

open Cert.Kernel4Ideal Cert.Kernel4Ideal.Gen Cert.Kernel4Ideal.Value

theorem zeros : (![0, 0] : Fin 2 → Nat) = fun _ => 0 := funext fun a => by fin_cases a <;> rfl

/-- What a point writes back is the product of its two blocks. -/
theorem left_at {F : FTy → Type} [FloatOps F] (m : (ℓ : Loc nD τ sig) → Buf (Elt F) ℓ) (c : Dev nD) (t : Fin cfg0.N) :
    outsAt0 m c t = k0_pay1 (iblk m c 0 t) (iblk m c 1 t) := by
  unfold outsAt0 out0_A_2
  rw [View.read_writes_eq_canon]; swap; exact fun y => cover0_A_2 ..
  unfold kernelRun0_A
  dsimp only
  rw [View.canon_unit_zero (S := S1024x512) zeros]
  simp only [View.readAt_eq_ld, (hs0_0 t).read_unread, (hs0_1 t).read_unread,
    View.ld_unit_zero (S := S1024x8192) zeros, View.ld_unit_zero (S := S8192x512) zeros]

/-- A block's product at an index. -/
theorem block_entry (X : Vec Ideal S1024x8192 .bf16) (Y : Vec Ideal S8192x512 .bf16) (i : Fin 1024) (j : Fin 512) :
    k0_pay1 X Y (ix2 i j) = Cert.Entry.entry X Y i j :=
  Cert.Entry.matmul_entry (φ := .bf16) dot_S1024x8192_S8192x512_S1024x512_1_0_0_1_n_n rfl rfl
    (fun _ _ _ => Shape.idx_ext₂ rfl rfl) (fun _ _ _ => Shape.idx_ext₂ rfl rfl) X Y i j

variable (m : (ℓ : Loc nD τ sig) → Buf (Elt Ideal) ℓ) (c : Dev nD)

theorem points : cfg0.N = 6 := N_0

theorem start0 : ∀ t : Fin cfg0.N, win0_0.index t 0 = 0 ∧ win0_0.index t 1 = 0 :=
  (by decide +kernel : ∀ t : Fin grid0.N, win0_0.index t 0 = 0 ∧ win0_0.index t 1 = 0)
theorem start1 : ∀ t : Fin cfg0.N, win0_1.index t 0 = 0 ∧ win0_1.index t 1 = t.val :=
  (by decide +kernel : ∀ t : Fin grid0.N, win0_1.index t 0 = 0 ∧ win0_1.index t 1 = t.val)
theorem start2 : ∀ t : Fin cfg0.N, win0_2.index t 0 = 0 ∧ win0_2.index t 1 = 11 + t.val :=
  (by decide +kernel : ∀ t : Fin grid0.N, win0_2.index t 0 = 0 ∧ win0_2.index t 1 = 11 + t.val)
theorem flushes : ∀ t : Fin cfg0.N, (cfg0.win 2).flush t = true :=
  (by decide +kernel : ∀ t : Fin grid0.N, (cfg0.win 2).flush t = true)

/-- The arguments. -/
abbrev rowsIn : Vec Ideal S1024x8192 .bf16 := m ((c : Thread nD τ).loc main_arg0)
abbrev pieceIn : Vec Ideal S8192x3072 .bf16 := m ((c : Thread nD τ).loc main_arg1)
abbrev carried : Vec Ideal S1024x8704 .bf16 := m ((c : Thread nD τ).loc main_arg2)

/-- The first block is the whole first argument. -/
theorem blk0 (t : Fin cfg0.N) (i : Fin 1024) (k : Fin 8192) :
    (iblk m c 0 t : Vec Ideal S1024x8192 .bf16) (ix2 i k) = rowsIn m c (ix2 i k) := by
  unfold iblk; rw [View.read_apply]
  obtain ⟨h0, h1⟩ := start0 t
  refine congrArg (m ((c : Thread nD τ).loc main_arg0)) (Shape.idx_ext₂ ?_ ?_)
  · show win0_0.index t 0 * 1024 + 1 * i.val = i.val; omega
  · show win0_0.index t 1 * 8192 + 1 * k.val = k.val; omega

/-- The second block is the point's 512 columns of the second. -/
theorem blk1 (t : Fin cfg0.N) (k : Fin 8192) (j : Fin 512) : (iblk m c 1 t : Vec Ideal S8192x512 .bf16) (ix2 k j)
    = pieceIn m c (ix2 k ⟨512 * t.val + j.val, by have := lt_of_lt_of_eq t.isLt points; omega⟩) := by
  unfold iblk; rw [View.read_apply]
  obtain ⟨h0, h1⟩ := start1 t
  refine congrArg (m ((c : Thread nD τ).loc main_arg1)) (Shape.idx_ext₂ ?_ ?_)
  · show win0_1.index t 0 * 8192 + 1 * k.val = k.val; omega
  · show win0_1.index t 1 * 512 + 1 * j.val = 512 * t.val + j.val; omega

/-- The whole result. -/
def result : Vec Ideal S1024x8704 .bf16 := fun y =>
  if h : (y 1 : ℕ) < 5632 then carried m c y
  else Cert.Entry.entry (rowsIn m c) (pieceIn m c) (y 0) ⟨(y 1 : ℕ) - 5632, by have : (y 1 : ℕ) < 8704 := (y 1).isLt; omega⟩

/-- The array that the call writes into starts as the gradient it was given. -/
theorem starts : V m c main_v0 = carried m c := by
  unfold carried
  show StableHlo.after hostOps0 _ _ = _
  after_results
  rfl

theorem result_eq : (dats m 0 c).arrAt 2 cfg0.N = result m c := by
  funext y
  have hy0 : (y 0 : ℕ) < 1024 := (y 0).isLt
  have hy1 : (y 1 : ℕ) < 8704 := (y 1).isLt
  unfold result
  by_cases h : (y 1 : ℕ) < 5632
  · rw [dif_pos h]
    refine (entry2 m c y fun t _ hm => ?_).trans (congrFun (starts m c) y)
    have hm : y ∈ ((View.whole main_v0).slice (win0_2.rect t)).set := hm
    rw [View.set_slice_whole, Rect.mem_set_unit] at hm
    have : win0_2.index t 1 * 512 ≤ (y 1 : ℕ) := (hm 1).1
    have := (start2 t).2
    omega
  · rw [dif_neg h]
    obtain ⟨t, ht⟩ : ∃ t : Fin cfg0.N, t.val = ((y 1 : ℕ) - 5632) / 512 := ⟨⟨((y 1 : ℕ) - 5632) / 512, by rw [points]; omega⟩, rfl⟩
    have hj : ((y 1 : ℕ) - 5632) % 512 < 512 := Nat.mod_lt _ (by decide)
    have e := congrFun (blocks2 m c t (flushes t)) (ix2 (y 0) ⟨((y 1 : ℕ) - 5632) % 512, hj⟩)
    rw [View.read_apply, flushed2, left_at] at e
    obtain ⟨h0, h1⟩ := start2 t
    refine (congrArg ((dats m 0 c).arrAt 2 cfg0.N) (Shape.idx_ext₂ ?_ ?_)).trans (e.trans ?_)
    · show (y 0 : ℕ) = win0_2.index t 0 * 1024 + 1 * (y 0 : ℕ); omega
    · show (y 1 : ℕ) = win0_2.index t 1 * 512 + 1 * (((y 1 : ℕ) - 5632) % 512); omega
    · refine (block_entry _ _ (y 0) ⟨_, hj⟩).trans ?_
      refine Cert.Entry.entry_congr _ _ _ _ (y 0) _ ⟨_, hj⟩ _ (fun k => blk0 m c t (y 0) k) fun k => (blk1 m c t k ⟨_, hj⟩).trans ?_
      exact congrArg (fun j => pieceIn m c (ix2 k j)) (Fin.ext (by
        show 512 * t.val + ((y 1 : ℕ) - 5632) % 512 = (y 1 : ℕ) - 5632; omega))

end Cert.Kernel4Ideal.Gates

end
-- ==== Proof.Middle.lean ====
/- What the middle weight gradient call leaves: its columns of the gradient hold the product with its three pieces side by side, the
   other columns are as they were. -/
module

public import proofs.«01_k».proof.Proof.Entry
public import proofs.«01_k».proof.Proof.Gen.Kernel5Ideal.Value
public import Idealize.ShloMosaic.Lib.Tactic

@[expose] public section

noncomputable section

open Idealize.ShloMosaic Idealize.ShloMosaic.TcCoe Idealize.SL.Sem Idealize.ShloMosaic.ValueIdx
open scoped BigOperators

namespace Cert.Kernel5Ideal.Middle

open Cert.Kernel5Ideal Cert.Kernel5Ideal.Gen Cert.Kernel5Ideal.Value

theorem zeros : (![0, 0] : Fin 2 → Nat) = fun _ => 0 := funext fun a => by fin_cases a <;> rfl

section AnyFloat

variable {F : FTy → Type} [FloatOps F] (m : (ℓ : Loc nD τ sig) → Buf (Elt F) ℓ) (c : Dev nD) (t : Fin cfg0.N)

/-! What a point writes back is the product of the first block and the block of the piece whose turn it is. -/

theorem left_first (h : t.val < 4) : outsAt0 m c t.val t.isLt = k0_pay1 (iblk m c 0 t) (iblk m c 1 t) := by
  rw [outsAt0_A m c t h (by omega) (by omega)]
  unfold out0_A_4
  rw [View.read_writes_eq_canon]; swap; exact fun y => cover0_A_4 ..
  unfold kernelRun0_A
  dsimp only
  rw [View.canon_unit_zero (S := S1024x256) zeros]
  simp only [View.readAt_eq_ld, (hs0_0 t).read_unread, (hs0_1 t).read_unread,
    View.ld_unit_zero (S := S1024x8192) zeros, View.ld_unit_zero (S := S8192x256) zeros]

theorem left_second (h : 4 ≤ t.val ∧ t.val < 8) : outsAt0 m c t.val t.isLt = k0_pay1 (iblk m c 0 t) (iblk m c 2 t) := by
  rw [outsAt0_B m c t (by omega) (by omega) (by omega)]
  unfold out0_B_4
  rw [View.read_writes_eq_canon]; swap; exact fun y => cover0_B_4 ..
  unfold kernelRun0_B
  dsimp only
  rw [View.canon_unit_zero (S := S1024x256) zeros]
  simp only [View.readAt_eq_ld, (hs0_0 t).read_unread, (hs0_2 t).read_unread,
    View.ld_unit_zero (S := S1024x8192) zeros, View.ld_unit_zero (S := S8192x256) zeros]
  rfl

theorem left_third (h : 8 ≤ t.val) : outsAt0 m c t.val t.isLt = k0_pay1 (iblk m c 0 t) (iblk m c 3 t) := by
  have := lt_of_lt_of_eq t.isLt N_0
  rw [outsAt0_C m c t (by omega) (by omega) h]
  unfold out0_C_4
  rw [View.read_writes_eq_canon]; swap; exact fun y => cover0_C_4 ..
  unfold kernelRun0_C
  dsimp only
  rw [View.canon_unit_zero (S := S1024x256) zeros]
  simp only [View.readAt_eq_ld, (hs0_0 t).read_unread, (hs0_3 t).read_unread,
    View.ld_unit_zero (S := S1024x8192) zeros, View.ld_unit_zero (S := S8192x256) zeros]
  rfl

end AnyFloat

/-- A block's product at an index. -/
theorem block_entry (X : Vec Ideal S1024x8192 .bf16) (Y : Vec Ideal S8192x256 .bf16) (i : Fin 1024) (j : Fin 256) :
    k0_pay1 X Y (ix2 i j) = Cert.Entry.entry X Y i j :=
  Cert.Entry.matmul_entry (φ := .bf16) dot_S1024x8192_S8192x256_S1024x256_1_0_0_1_n_n rfl rfl
    (fun _ _ _ => Shape.idx_ext₂ rfl rfl) (fun _ _ _ => Shape.idx_ext₂ rfl rfl) X Y i j

variable (m : (ℓ : Loc nD τ sig) → Buf (Elt Ideal) ℓ) (c : Dev nD)

theorem points : cfg0.N = 10 := N_0

theorem start0 : ∀ t : Fin cfg0.N, win0_0.index t 0 = 0 ∧ win0_0.index t 1 = 0 :=
  (by decide +kernel : ∀ t : Fin grid0.N, win0_0.index t 0 = 0 ∧ win0_0.index t 1 = 0)
theorem start1 : ∀ t : Fin cfg0.N, t.val < 4 → win0_1.index t 0 = 0 ∧ win0_1.index t 1 = t.val :=
  (by decide +kernel : ∀ t : Fin grid0.N, t.val < 4 → win0_1.index t 0 = 0 ∧ win0_1.index t 1 = t.val)
theorem start2 : ∀ t : Fin cfg0.N, 4 ≤ t.val ∧ t.val < 8 → win0_2.index t 0 = 0 ∧ win0_2.index t 1 = t.val - 4 :=
  (by decide +kernel : ∀ t : Fin grid0.N, 4 ≤ t.val ∧ t.val < 8 → win0_2.index t 0 = 0 ∧ win0_2.index t 1 = t.val - 4)
theorem start3 : ∀ t : Fin cfg0.N, 8 ≤ t.val → win0_3.index t 0 = 0 ∧ win0_3.index t 1 = t.val - 8 :=
  (by decide +kernel : ∀ t : Fin grid0.N, 8 ≤ t.val → win0_3.index t 0 = 0 ∧ win0_3.index t 1 = t.val - 8)
theorem start4 : ∀ t : Fin cfg0.N, win0_4.index t 0 = 0 ∧ win0_4.index t 1 = 12 + t.val :=
  (by decide +kernel : ∀ t : Fin grid0.N, win0_4.index t 0 = 0 ∧ win0_4.index t 1 = 12 + t.val)
theorem flushes : ∀ t : Fin cfg0.N, (cfg0.win 4).flush t = true :=
  (by decide +kernel : ∀ t : Fin grid0.N, (cfg0.win 4).flush t = true)

/-- The arguments. -/
abbrev rowsIn : Vec Ideal S1024x8192 .bf16 := m ((c : Thread nD τ).loc main_arg0)
abbrev piece1 : Vec Ideal S8192x1024 .bf16 := m ((c : Thread nD τ).loc main_arg1)
abbrev piece2 : Vec Ideal S8192x1024 .bf16 := m ((c : Thread nD τ).loc main_arg2)
abbrev piece3 : Vec Ideal S8192x512 .bf16 := m ((c : Thread nD τ).loc main_arg3)
abbrev carried : Vec Ideal S1024x8704 .bf16 := m ((c : Thread nD τ).loc main_arg4)

/-- The three pieces side by side. -/
def joined : (Cert.Entry.Mat 8192 2560).Idx → EReal := fun y =>
  if h : (y 1 : ℕ) < 1024 then piece1 m c (ix2 (y 0) ⟨(y 1 : ℕ), h⟩)
  else if h' : (y 1 : ℕ) < 2048 then piece2 m c (ix2 (y 0) ⟨(y 1 : ℕ) - 1024, by omega⟩)
  else piece3 m c (ix2 (y 0) ⟨(y 1 : ℕ) - 2048, by have : (y 1 : ℕ) < 2560 := (y 1).isLt; omega⟩)

theorem joined1 (k : Fin 8192) (j : Fin 2560) (j' : Fin 1024) (h : j.val = j'.val) :
    piece1 m c (ix2 k j') = joined m c (ix2 k j) := by
  unfold joined
  rw [dif_pos (show j.val < 1024 by omega)]
  exact congrArg (fun j => piece1 m c (ix2 k j)) (Fin.ext h.symm)
theorem joined2 (k : Fin 8192) (j : Fin 2560) (j' : Fin 1024) (h : j.val = 1024 + j'.val) :
    piece2 m c (ix2 k j') = joined m c (ix2 k j) := by
  unfold joined
  rw [dif_neg (show ¬j.val < 1024 by omega), dif_pos (show j.val < 2048 by omega)]
  exact congrArg (fun j => piece2 m c (ix2 k j)) (Fin.ext (by show j'.val = j.val - 1024; omega))
theorem joined3 (k : Fin 8192) (j : Fin 2560) (j' : Fin 512) (h : j.val = 2048 + j'.val) :
    piece3 m c (ix2 k j') = joined m c (ix2 k j) := by
  unfold joined
  rw [dif_neg (show ¬j.val < 1024 by omega), dif_neg (show ¬j.val < 2048 by omega)]
  exact congrArg (fun j => piece3 m c (ix2 k j)) (Fin.ext (by show j'.val = j.val - 2048; omega))

/-- The first block is the whole first argument. -/
theorem blk0 (t : Fin cfg0.N) (i : Fin 1024) (k : Fin 8192) :
    (iblk m c 0 t : Vec Ideal S1024x8192 .bf16) (ix2 i k) = rowsIn m c (ix2 i k) := by
  unfold iblk; rw [View.read_apply]
  obtain ⟨h0, h1⟩ := start0 t
  refine congrArg (m ((c : Thread nD τ).loc main_arg0)) (Shape.idx_ext₂ ?_ ?_)
  · show win0_0.index t 0 * 1024 + 1 * i.val = i.val; omega
  · show win0_0.index t 1 * 8192 + 1 * k.val = k.val; omega

/-! A piece's block, in its turn, is the point's 256 columns of the pieces side by side. -/

theorem blk1 (t : Fin cfg0.N) (h : t.val < 4) (k : Fin 8192) (j : Fin 256) (q : Fin 2560) (hq : q.val = 256 * t.val + j.val) :
    (iblk m c 1 t : Vec Ideal S8192x256 .bf16) (ix2 k j) = joined m c (ix2 k q) := by
  unfold iblk; rw [View.read_apply]
  obtain ⟨h0, h1⟩ := start1 t h
  refine (congrArg (m ((c : Thread nD τ).loc main_arg1)) (Shape.idx_ext₂ ?_ ?_)).trans
    (joined1 m c k q ⟨256 * t.val + j.val, by omega⟩ hq)
  · show win0_1.index t 0 * 8192 + 1 * k.val = k.val; omega
  · show win0_1.index t 1 * 256 + 1 * j.val = 256 * t.val + j.val; omega

theorem blk2 (t : Fin cfg0.N) (h : 4 ≤ t.val ∧ t.val < 8) (k : Fin 8192) (j : Fin 256) (q : Fin 2560)
    (hq : q.val = 256 * t.val + j.val) : (iblk m c 2 t : Vec Ideal S8192x256 .bf16) (ix2 k j) = joined m c (ix2 k q) := by
  unfold iblk; rw [View.read_apply]
  obtain ⟨h0, h1⟩ := start2 t h
  refine (congrArg (m ((c : Thread nD τ).loc main_arg2)) (Shape.idx_ext₂ ?_ ?_)).trans
    (joined2 m c k q ⟨256 * (t.val - 4) + j.val, by omega⟩ (by dsimp only; omega))
  · show win0_2.index t 0 * 8192 + 1 * k.val = k.val; omega
  · show win0_2.index t 1 * 256 + 1 * j.val = 256 * (t.val - 4) + j.val; omega

theorem blk3 (t : Fin cfg0.N) (h : 8 ≤ t.val) (k : Fin 8192) (j : Fin 256) (q : Fin 2560)
    (hq : q.val = 256 * t.val + j.val) : (iblk m c 3 t : Vec Ideal S8192x256 .bf16) (ix2 k j) = joined m c (ix2 k q) := by
  have := q.isLt
  unfold iblk; rw [View.read_apply]
  obtain ⟨h0, h1⟩ := start3 t h
  refine (congrArg (m ((c : Thread nD τ).loc main_arg3)) (Shape.idx_ext₂ ?_ ?_)).trans
    (joined3 m c k q ⟨256 * (t.val - 8) + j.val, by omega⟩ (by dsimp only; omega))
  · show win0_3.index t 0 * 8192 + 1 * k.val = k.val; omega
  · show win0_3.index t 1 * 256 + 1 * j.val = 256 * (t.val - 8) + j.val; omega

/-- What a point writes back, at an index. -/
theorem left_apply (t : Fin cfg0.N) (i : Fin 1024) (j : Fin 256) (q : Fin 2560) (hq : q.val = 256 * t.val + j.val) :
    (outsAt0 m c t.val t.isLt : Vec Ideal S1024x256 .bf16) (ix2 i j) = Cert.Entry.entry (rowsIn m c) (joined m c) i q := by
  rcases lt_or_ge t.val 4 with h | h
  · rw [left_first m c t h]
    exact (block_entry _ _ i j).trans (Cert.Entry.entry_congr _ _ _ _ i i j q (fun k => blk0 m c t i k) fun k => blk1 m c t h k j q hq)
  rcases lt_or_ge t.val 8 with h' | h'
  · rw [left_second m c t ⟨h, h'⟩]
    exact (block_entry _ _ i j).trans
      (Cert.Entry.entry_congr _ _ _ _ i i j q (fun k => blk0 m c t i k) fun k => blk2 m c t ⟨h, h'⟩ k j q hq)
  · rw [left_third m c t h']
    exact (block_entry _ _ i j).trans (Cert.Entry.entry_congr _ _ _ _ i i j q (fun k => blk0 m c t i k) fun k => blk3 m c t h' k j q hq)

/-- The whole result. -/
def result : Vec Ideal S1024x8704 .bf16 := fun y =>
  if h : 3072 ≤ (y 1 : ℕ) ∧ (y 1 : ℕ) < 5632 then Cert.Entry.entry (rowsIn m c) (joined m c) (y 0) ⟨(y 1 : ℕ) - 3072, by omega⟩
  else carried m c y

/-- The array that the call writes into starts as the gradient it was given. -/
theorem starts : V m c main_v0 = carried m c := by
  unfold carried
  show StableHlo.after hostOps0 _ _ = _
  after_results
  rfl

theorem result_eq : (dats m 0 c).arrAt 4 cfg0.N = result m c := by
  funext y
  have hy0 : (y 0 : ℕ) < 1024 := (y 0).isLt
  have hy1 : (y 1 : ℕ) < 8704 := (y 1).isLt
  unfold result
  by_cases h : 3072 ≤ (y 1 : ℕ) ∧ (y 1 : ℕ) < 5632
  · rw [dif_pos h]
    obtain ⟨t, ht⟩ : ∃ t : Fin cfg0.N, t.val = ((y 1 : ℕ) - 3072) / 256 := ⟨⟨((y 1 : ℕ) - 3072) / 256, by rw [points]; omega⟩, rfl⟩
    have hj : ((y 1 : ℕ) - 3072) % 256 < 256 := Nat.mod_lt _ (by decide)
    have e := congrFun (blocks4 m c t (flushes t)) (ix2 (y 0) ⟨((y 1 : ℕ) - 3072) % 256, hj⟩)
    rw [View.read_apply, flushed4] at e
    obtain ⟨h0, h1⟩ := start4 t
    refine (congrArg ((dats m 0 c).arrAt 4 cfg0.N) (Shape.idx_ext₂ ?_ ?_)).trans
      (e.trans (left_apply m c t (y 0) ⟨_, hj⟩ ⟨(y 1 : ℕ) - 3072, by omega⟩ (by dsimp only; omega)))
    · show (y 0 : ℕ) = win0_4.index t 0 * 1024 + 1 * (y 0 : ℕ); omega
    · show (y 1 : ℕ) = win0_4.index t 1 * 256 + 1 * (((y 1 : ℕ) - 3072) % 256); omega
  · rw [dif_neg h]
    refine (entry4 m c y fun t _ hm => ?_).trans (congrFun (starts m c) y)
    have hm : y ∈ ((View.whole main_v0).slice (win0_4.rect t)).set := hm
    rw [View.set_slice_whole, Rect.mem_set_unit] at hm
    have : win0_4.index t 1 * 256 ≤ (y 1 : ℕ) ∧ (y 1 : ℕ) < win0_4.index t 1 * 256 + 256 := hm 1
    have := (start4 t).2
    have := lt_of_lt_of_eq t.isLt points
    omega

end Cert.Kernel5Ideal.Middle

end
-- ==== Proof.Recur.lean ====
/- What the recurrence's weight gradient call leaves in its columns of the gradient: the product. -/
module

public import proofs.«01_k».proof.Proof.Entry
public import proofs.«01_k».proof.Proof.Gen.Kernel6Ideal.Frame
public import Idealize.ShloMosaic.Lib.Pipeline.Value
public import Idealize.ShloMosaic.Lib.Tactic

@[expose] public section

noncomputable section

open Idealize.ShloMosaic Idealize.ShloMosaic.TcCoe Idealize.SL.Sem Idealize.ShloMosaic.ValueIdx
open Idealize.ShloMosaic.Pipeline (Dat)
open scoped BigOperators

namespace Cert.Kernel6Ideal.Recur

open Cert.Kernel6Ideal Cert.Kernel6Ideal.Gen

theorem zeros : (![0, 0] : Fin 2 → Nat) = fun _ => 0 := funext fun a => by fin_cases a <;> rfl

/-- What a point writes back is the product of its two blocks. -/
theorem left_at {F : FTy → Type} [FloatOps F] (m : (ℓ : Loc nD τ sig) → Buf (Elt F) ℓ) (c : Dev nD) (t : Fin cfg0.N) :
    (dats m 0 c).flushed 2 t = (cfg0.win 2).cut (grid0.coords t) (k0_pay1 (iblk m c 0 t) (iblk m c 1 t)) := by
  show (cfg0.win 2).cut (grid0.coords t) ((dats m 0 c).after 2 t) = _
  rw [after0_2]
  refine congrArg _ ?_
  unfold outsAt0 out0_A_2
  rw [View.read_writes_eq_canon]; swap; exact fun y => cover0_A_2 ..
  unfold kernelRun0_A
  dsimp only
  rw [View.canon_unit_zero (S := S1024x512) zeros]
  simp only [View.readAt_eq_ld, (hs0_0 t).read_unread, (hs0_1 t).read_unread,
    View.ld_unit_zero (S := S1024x8192) zeros, View.ld_unit_zero (S := S8192x512) zeros]

/-- A block's product at an index. -/
theorem block_entry (X : Vec Ideal S1024x8192 .bf16) (Y : Vec Ideal S8192x512 .bf16) (i : Fin 1024) (j : Fin 512) :
    k0_pay1 X Y (ix2 i j) = Cert.Entry.entry X Y i j :=
  Cert.Entry.matmul_entry (φ := .bf16) dot_S1024x8192_S8192x512_S1024x512_1_0_0_1_n_n rfl rfl
    (fun _ _ _ => Shape.idx_ext₂ rfl rfl) (fun _ _ _ => Shape.idx_ext₂ rfl rfl) X Y i j

variable (m : (ℓ : Loc nD τ sig) → Buf (Elt Ideal) ℓ) (c : Dev nD)

theorem points : cfg0.N = 6 := N_0

theorem start0 : ∀ t : Fin cfg0.N, win0_0.index t 0 = 0 ∧ win0_0.index t 1 = 0 :=
  (by decide +kernel : ∀ t : Fin grid0.N, win0_0.index t 0 = 0 ∧ win0_0.index t 1 = 0)
theorem start1 : ∀ t : Fin cfg0.N, win0_1.index t 0 = 0 ∧ win0_1.index t 1 = t.val :=
  (by decide +kernel : ∀ t : Fin grid0.N, win0_1.index t 0 = 0 ∧ win0_1.index t 1 = t.val)
theorem start2 : ∀ t : Fin cfg0.N, win0_2.index t 0 = 0 ∧ win0_2.index t 1 = t.val :=
  (by decide +kernel : ∀ t : Fin grid0.N, win0_2.index t 0 = 0 ∧ win0_2.index t 1 = t.val)
theorem flushes : ∀ t : Fin cfg0.N, (cfg0.win 2).flush t = true :=
  (by decide +kernel : ∀ t : Fin grid0.N, (cfg0.win 2).flush t = true)

/-- Points write to different blocks. -/
theorem apart (t t' : Fin cfg0.N) (_ : (cfg0.win 2).flush t = true) (_ : (cfg0.win 2).flush t' = true) (h : t ≠ t') :
    Disjoint ((cfg0.win 2).blk t).view.set ((cfg0.win 2).blk t').view.set :=
  (cfg0.win 2).disjoint_blk fun e => h (Fin.ext (by
    have e : win0_2.index t 1 = win0_2.index t' 1 := congrFun e 1
    rw [(start2 t).2, (start2 t').2] at e
    exact e))

/-- The arguments. -/
abbrev rowsIn : Vec Ideal S1024x8192 .bf16 := m ((c : Thread nD τ).loc main_arg0)
abbrev pieceIn : Vec Ideal S8192x3072 .bf16 := m ((c : Thread nD τ).loc main_arg1)

/-- The first block is the whole first argument. -/
theorem blk0 (t : Fin cfg0.N) (i : Fin 1024) (k : Fin 8192) :
    (iblk m c 0 t : Vec Ideal S1024x8192 .bf16) (ix2 i k) = rowsIn m c (ix2 i k) := by
  unfold iblk; rw [View.read_apply]
  obtain ⟨h0, h1⟩ := start0 t
  refine congrArg (m ((c : Thread nD τ).loc main_arg0)) (Shape.idx_ext₂ ?_ ?_)
  · show win0_0.index t 0 * 1024 + 1 * i.val = i.val; omega
  · show win0_0.index t 1 * 8192 + 1 * k.val = k.val; omega

/-- The second block is the point's 512 columns of the second. -/
theorem blk1 (t : Fin cfg0.N) (k : Fin 8192) (j : Fin 512) : (iblk m c 1 t : Vec Ideal S8192x512 .bf16) (ix2 k j)
    = pieceIn m c (ix2 k ⟨512 * t.val + j.val, by have := lt_of_lt_of_eq t.isLt points; omega⟩) := by
  unfold iblk; rw [View.read_apply]
  obtain ⟨h0, h1⟩ := start1 t
  refine congrArg (m ((c : Thread nD τ).loc main_arg1)) (Shape.idx_ext₂ ?_ ?_)
  · show win0_1.index t 0 * 8192 + 1 * k.val = k.val; omega
  · show win0_1.index t 1 * 512 + 1 * j.val = 512 * t.val + j.val; omega

/-- The columns that the call writes, at an index. -/
theorem written (y : S1024x8704.Idx) (h : (y 1 : ℕ) < 3072) :
    ((dats m 0 c).arrAt 2 cfg0.N : Vec Ideal S1024x8704 .bf16) y = Cert.Entry.entry (rowsIn m c) (pieceIn m c) (y 0) ⟨(y 1 : ℕ), h⟩ := by
  have hy0 : (y 0 : ℕ) < 1024 := (y 0).isLt
  obtain ⟨t, ht⟩ : ∃ t : Fin cfg0.N, t.val = (y 1 : ℕ) / 512 := ⟨⟨(y 1 : ℕ) / 512, by rw [points]; omega⟩, rfl⟩
  have hj : (y 1 : ℕ) % 512 < 512 := Nat.mod_lt _ (by decide)
  have e := congrFun ((dats m 0 c).read_blk_arrAt_eq_flushed 2 apart cfg0.N t t.isLt (flushes t)) (ix2 (y 0) ⟨(y 1 : ℕ) % 512, hj⟩)
  rw [View.read_apply, left_at] at e
  obtain ⟨h0, h1⟩ := start2 t
  refine (congrArg ((dats m 0 c).arrAt 2 cfg0.N) (Shape.idx_ext₂ ?_ ?_)).trans (e.trans ?_)
  · show (y 0 : ℕ) = win0_2.index t 0 * 1024 + 1 * (y 0 : ℕ); omega
  · show (y 1 : ℕ) = win0_2.index t 1 * 512 + 1 * ((y 1 : ℕ) % 512); omega
  · refine (block_entry _ _ (y 0) ⟨_, hj⟩).trans ?_
    refine Cert.Entry.entry_congr _ _ _ _ (y 0) _ ⟨_, hj⟩ _ (fun k => blk0 m c t (y 0) k) fun k => (blk1 m c t k ⟨_, hj⟩).trans ?_
    exact congrArg (fun j => pieceIn m c (ix2 k j)) (Fin.ext (by show 512 * t.val + (y 1 : ℕ) % 512 = (y 1 : ℕ); omega))

/-- The columns that the call writes, as the program returns them. -/
def result : Vec Ideal S1024x3072 .bf16 := fun y => Cert.Entry.entry (rowsIn m c) (pieceIn m c) (y 0) (y 1)

theorem slice_eq : extractStridedSlice S1024x3072 ![0, 0] ((dats m 0 c).arrAt 2 cfg0.N : Vec Ideal S1024x8704 .bf16)
    slices_S1024x8704_S1024x3072_0_0 = result m c := by
  funext y
  have h : (y 1 : ℕ) < 3072 := (y 1).isLt
  refine (extractStridedSlice_apply _ _ _ y (ix2 (y 0) ⟨(y 1 : ℕ), by omega⟩ : S1024x8704.Idx) fun a => ?_).trans
    (written m c _ h)
  match a with
  | 0 => show (y 0 : ℕ) = 0 + (y 0 : ℕ); omega
  | 1 => show (y 1 : ℕ) = 0 + (y 1 : ℕ); omega

/-- The run with its result: the call's columns hold the product, and the arguments are as they were. -/
theorem run (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 (Pipeline.mem_restRefs_of main_v1 (by decide) (by decide))).trans (by
        unfold Pipeline.afterTail₀
        show StableHlo.after hostOps1 _ _ = _
        after_results
        refine Eq.trans ?_ (slice_eq m c)
        refine congrArg (fun v : Vec Ideal S1024x8704 .bf16 => extractStridedSlice S1024x3072 ![0, 0] v slices_S1024x8704_S1024x3072_0_0) ?_
        exact Pipeline.withArrays_arr spec0 winFacts0.arr_inj c (V0 m c) (fun w => (dats m 0 c).arrAt w cfg0.N) 2),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel6Ideal.Recur

end
-- ==== Proof.WgradClaim.lean ====
/- The input projection's three weight gradient calls and their references end with equal results over the extended reals. -/
module

public import proofs.«01_k».proof.Proof.Gates
public import proofs.«01_k».proof.Proof.Middle
public import proofs.«01_k».proof.Proof.Recur
public import proofs.«01_k».proof.Proof.Gen.Reference4Ideal.Run
public import proofs.«01_k».proof.Proof.Gen.Reference5Ideal.Run
public import proofs.«01_k».proof.Proof.Gen.Reference6Ideal.Run
public import proofs.«01_k».proof.Defs

@[expose] public section

noncomputable section

open Idealize.ShloMosaic Idealize.ShloMosaic.TcCoe Idealize.SL.Sem Idealize.ShloMosaic.ValueIdx
open scoped BigOperators

namespace Cert.Proof

section Gates

open Cert.Reference4Ideal Cert.Reference4Ideal.Gen

/-- The gates' reference joins the columns that stay and the product. -/
theorem gates_eq (m : (ℓ : Loc Cert.Kernel4Ideal.nD Cert.Kernel4Ideal.τ Cert.Kernel4Ideal.sig) → Buf (Elt Ideal) ℓ)
    (c : Dev Cert.Kernel4Ideal.nD) :
    (concatenate S1024x8704 1 [⟨S1024x5632, (extractStridedSlice S1024x5632 ![0, 0] (Cert.Kernel4Ideal.Gates.carried m c)
        slices_S1024x8704_S1024x5632_0_0)⟩,
      ⟨S1024x3072, (truncf (F := Ideal) .bf16 (Host.dotGeneral dot_S1024x8192_S8192x3072_S1024x3072_1_0_0_1_n_n none
        (extf (F := Ideal) .f32 (Cert.Kernel4Ideal.Gates.rowsIn m c) bitsLt_bf16_f32)
        (extf (F := Ideal) .f32 (Cert.Kernel4Ideal.Gates.pieceIn m c) bitsLt_bf16_f32)) bitsLt_bf16_f32)⟩]
      concatenates_S1024x5632_S1024x3072_S1024x8704_d1 : Vec Ideal S1024x8704 .bf16) = Cert.Kernel4Ideal.Gates.result m c := by
  funext y
  have hy1 : (y 1 : ℕ) < 8704 := (y 1).isLt
  unfold Cert.Kernel4Ideal.Gates.result
  by_cases h : (y 1 : ℕ) < 5632
  · rw [dif_pos h]
    refine (concatenate_apply_piece 1 _ _ y 0 (by show 0 < 2; omega) S1024x5632 _ rfl rfl 0 rfl (ix2 (y 0) ⟨(y 1 : ℕ), h⟩)
      (fun b hb => by match b with | 0 => rfl | 1 => exact absurd rfl hb) (Nat.zero_add _)).trans ?_
    exact extractStridedSlice_apply _ _ _ _ y fun a => by
      match a with
      | 0 => show (y 0 : ℕ) = 0 + (y 0 : ℕ); omega
      | 1 => show (y 1 : ℕ) = 0 + (y 1 : ℕ); omega
  · rw [dif_neg h]
    refine (concatenate_apply_piece 1 _ _ y 1 (by show 1 < 2; omega) S1024x3072 _ rfl rfl 5632 rfl
      (ix2 (y 0) ⟨(y 1 : ℕ) - 5632, by omega⟩)
      (fun b hb => by match b with | 0 => rfl | 1 => exact absurd rfl hb) (by show 5632 + ((y 1 : ℕ) - 5632) = _; omega)).trans ?_
    exact Cert.Entry.dot_entry (φ := .f32) dot_S1024x8192_S8192x3072_S1024x3072_1_0_0_1_n_n rfl rfl
      (fun _ _ _ => Shape.idx_ext₂ rfl rfl) (fun _ _ _ => Shape.idx_ext₂ rfl rfl) _ _ _ _

theorem algebraic4 : Cert.algebraic_Kernel4Ideal_Reference4Ideal := by
  intro m ρ m' ρ' _ h
  refine ⟨fun c => Cert.Kernel4Ideal.Gates.result m c, ?_, ?_⟩
  · exact (θ_run Cert.Kernel4Ideal.defs _ _).mono (fun r g c => ⟨(g c).1.trans (Cert.Kernel4Ideal.Gates.result_eq m c), (g c).2⟩)
      (Cert.Kernel4Ideal.Value.run_blocks m ρ)
  · refine (θ_run Cert.Reference4Ideal.defs _ _).mono (fun r g c => ?_) (Cert.Reference4Ideal.Value.run m' ρ')
    obtain ⟨h0, h1, h2⟩ := h c
    refine ⟨(g c).1.trans ?_, (g c).2⟩
    rw [h0, h1, h2]
    exact gates_eq m c

end Gates

section Middle

open Cert.Reference5Ideal Cert.Reference5Ideal.Gen

/-- The middle reference's pieces side by side. -/
theorem pieces_eq (m : (ℓ : Loc Cert.Kernel5Ideal.nD Cert.Kernel5Ideal.τ Cert.Kernel5Ideal.sig) → Buf (Elt Ideal) ℓ)
    (c : Dev Cert.Kernel5Ideal.nD) :
    (concatenate S8192x2560 1 [⟨S8192x1024, Cert.Kernel5Ideal.Middle.piece1 m c⟩, ⟨S8192x1024, Cert.Kernel5Ideal.Middle.piece2 m c⟩,
      ⟨S8192x512, Cert.Kernel5Ideal.Middle.piece3 m c⟩] concatenates_S8192x1024_S8192x1024_S8192x512_S8192x2560_d1 :
      Vec Ideal S8192x2560 .bf16) = Cert.Kernel5Ideal.Middle.joined m c := by
  funext y
  obtain ⟨k, j, rfl⟩ : ∃ k j, y = ix2 k j := ⟨_, _, eq_ix2 y⟩
  have hj : j.val < 2560 := j.isLt
  rcases lt_or_ge j.val 1024 with h | h
  · exact (concatenate_apply_piece 1 _ _ (ix2 k j) 0 (by show 0 < 3; omega) S8192x1024 _ rfl rfl 0 rfl (ix2 k ⟨j.val, h⟩)
      (fun b hb => by match b with | 0 => rfl | 1 => exact absurd rfl hb) (Nat.zero_add _)).trans
      (Cert.Kernel5Ideal.Middle.joined1 m c k j ⟨j.val, h⟩ rfl)
  rcases lt_or_ge j.val 2048 with h' | h'
  · exact (concatenate_apply_piece 1 _ _ (ix2 k j) 1 (by show 1 < 3; omega) S8192x1024 _ rfl rfl 1024 rfl (ix2 k ⟨j.val - 1024, by omega⟩)
      (fun b hb => by match b with | 0 => rfl | 1 => exact absurd rfl hb)
      (by show 1024 + (j.val - 1024) = j.val; omega)).trans
      (Cert.Kernel5Ideal.Middle.joined2 m c k j ⟨j.val - 1024, by omega⟩ (by show j.val = 1024 + (j.val - 1024); omega))
  · exact (concatenate_apply_piece 1 _ _ (ix2 k j) 2 (by show 2 < 3; omega) S8192x512 _ rfl rfl 2048 rfl (ix2 k ⟨j.val - 2048, by omega⟩)
      (fun b hb => by match b with | 0 => rfl | 1 => exact absurd rfl hb)
      (by show 2048 + (j.val - 2048) = j.val; omega)).trans
      (Cert.Kernel5Ideal.Middle.joined3 m c k j ⟨j.val - 2048, by omega⟩ (by show j.val = 2048 + (j.val - 2048); omega))

/-- The middle reference joins the columns that stay on either side and the product between them. -/
theorem middle_eq (m : (ℓ : Loc Cert.Kernel5Ideal.nD Cert.Kernel5Ideal.τ Cert.Kernel5Ideal.sig) → Buf (Elt Ideal) ℓ)
    (c : Dev Cert.Kernel5Ideal.nD) (P : Vec Ideal S8192x2560 .bf16) (hP : P = Cert.Kernel5Ideal.Middle.joined m c) :
    (concatenate S1024x8704 1 [⟨S1024x3072, (extractStridedSlice S1024x3072 ![0, 0] (Cert.Kernel5Ideal.Middle.carried m c)
        slices_S1024x8704_S1024x3072_0_0)⟩,
      ⟨S1024x2560, (truncf (F := Ideal) .bf16 (Host.dotGeneral dot_S1024x8192_S8192x2560_S1024x2560_1_0_0_1_n_n none
        (extf (F := Ideal) .f32 (Cert.Kernel5Ideal.Middle.rowsIn m c) bitsLt_bf16_f32)
        (extf (F := Ideal) .f32 P bitsLt_bf16_f32)) bitsLt_bf16_f32)⟩,
      ⟨S1024x3072, (extractStridedSlice S1024x3072 ![0, 5632] (Cert.Kernel5Ideal.Middle.carried m c)
        slices_S1024x8704_S1024x3072_0_5632)⟩]
      concatenates_S1024x3072_S1024x2560_S1024x3072_S1024x8704_d1 : Vec Ideal S1024x8704 .bf16)
      = Cert.Kernel5Ideal.Middle.result m c := by
  funext y
  have hy1 : (y 1 : ℕ) < 8704 := (y 1).isLt
  unfold Cert.Kernel5Ideal.Middle.result
  rcases lt_or_ge (y 1 : ℕ) 3072 with h | h
  · rw [dif_neg (by omega)]
    refine (concatenate_apply_piece 1 _ _ y 0 (by show 0 < 3; omega) S1024x3072 _ rfl rfl 0 rfl (ix2 (y 0) ⟨(y 1 : ℕ), h⟩)
      (fun b hb => by match b with | 0 => rfl | 1 => exact absurd rfl hb) (Nat.zero_add _)).trans ?_
    exact extractStridedSlice_apply _ _ _ _ y fun a => by
      match a with
      | 0 => show (y 0 : ℕ) = 0 + (y 0 : ℕ); omega
      | 1 => show (y 1 : ℕ) = 0 + (y 1 : ℕ); omega
  rcases lt_or_ge (y 1 : ℕ) 5632 with h' | h'
  · rw [dif_pos ⟨h, h'⟩]
    refine (concatenate_apply_piece 1 _ _ y 1 (by show 1 < 3; omega) S1024x2560 _ rfl rfl 3072 rfl
      (ix2 (y 0) ⟨(y 1 : ℕ) - 3072, by omega⟩)
      (fun b hb => by match b with | 0 => rfl | 1 => exact absurd rfl hb) (by show 3072 + ((y 1 : ℕ) - 3072) = _; omega)).trans ?_
    refine (Cert.Entry.dot_entry (φ := .f32) dot_S1024x8192_S8192x2560_S1024x2560_1_0_0_1_n_n rfl rfl
      (fun _ _ _ => Shape.idx_ext₂ rfl rfl) (fun _ _ _ => Shape.idx_ext₂ rfl rfl) _ _ _ _).trans ?_
    subst hP
    rfl
  · rw [dif_neg (by omega)]
    refine (concatenate_apply_piece 1 _ _ y 2 (by show 2 < 3; omega) S1024x3072 _ rfl rfl 5632 rfl
      (ix2 (y 0) ⟨(y 1 : ℕ) - 5632, by omega⟩)
      (fun b hb => by match b with | 0 => rfl | 1 => exact absurd rfl hb) (by show 5632 + ((y 1 : ℕ) - 5632) = _; omega)).trans ?_
    exact extractStridedSlice_apply _ _ _ _ y fun a => by
      match a with
      | 0 => show (y 0 : ℕ) = 0 + (y 0 : ℕ); omega
      | 1 => show (y 1 : ℕ) = 5632 + ((y 1 : ℕ) - 5632); omega

theorem algebraic5 : Cert.algebraic_Kernel5Ideal_Reference5Ideal := by
  intro m ρ m' ρ' _ h
  refine ⟨fun c => Cert.Kernel5Ideal.Middle.result m c, ?_, ?_⟩
  · exact (θ_run Cert.Kernel5Ideal.defs _ _).mono (fun r g c => ⟨(g c).1.trans (Cert.Kernel5Ideal.Middle.result_eq m c), (g c).2⟩)
      (Cert.Kernel5Ideal.Value.run_blocks m ρ)
  · refine (θ_run Cert.Reference5Ideal.defs _ _).mono (fun r g c => ?_) (Cert.Reference5Ideal.Value.run m' ρ')
    obtain ⟨h0, h1, h2, h3, h4⟩ := h c
    refine ⟨(g c).1.trans ?_, (g c).2⟩
    rw [h0, h1, h2, h3, h4]
    exact middle_eq m c _ (pieces_eq m c)

end Middle

section Recur

open Cert.Reference6Ideal Cert.Reference6Ideal.Gen

/-- The recurrence's reference is the product. -/
theorem recur_eq (m : (ℓ : Loc Cert.Kernel6Ideal.nD Cert.Kernel6Ideal.τ Cert.Kernel6Ideal.sig) → Buf (Elt Ideal) ℓ)
    (c : Dev Cert.Kernel6Ideal.nD) :
    (truncf (F := Ideal) .bf16 (Host.dotGeneral dot_S1024x8192_S8192x3072_S1024x3072_1_0_0_1_n_n none
        (extf (F := Ideal) .f32 (Cert.Kernel6Ideal.Recur.rowsIn m c) bitsLt_bf16_f32)
        (extf (F := Ideal) .f32 (Cert.Kernel6Ideal.Recur.pieceIn m c) bitsLt_bf16_f32)) bitsLt_bf16_f32 : Vec Ideal S1024x3072 .bf16)
      = Cert.Kernel6Ideal.Recur.result m c := by
  funext y
  obtain ⟨i, j, rfl⟩ : ∃ i j, y = ix2 i j := ⟨_, _, eq_ix2 y⟩
  exact Cert.Entry.dot_entry (φ := .f32) dot_S1024x8192_S8192x3072_S1024x3072_1_0_0_1_n_n rfl rfl
    (fun _ _ _ => Shape.idx_ext₂ rfl rfl) (fun _ _ _ => Shape.idx_ext₂ rfl rfl) _ _ i j

theorem algebraic6 : Cert.algebraic_Kernel6Ideal_Reference6Ideal := by
  intro m ρ m' ρ' _ h
  refine ⟨fun c => Cert.Kernel6Ideal.Recur.result m c, Cert.Kernel6Ideal.Recur.run m ρ, ?_⟩
  refine (θ_run Cert.Reference6Ideal.defs _ _).mono (fun r g c => ?_) (Cert.Reference6Ideal.Value.run m' ρ')
  obtain ⟨h0, h1⟩ := h c
  refine ⟨(g c).1.trans ?_, (g c).2⟩
  rw [h0, h1]
  exact recur_eq m c

end Recur

end Cert.Proof

end
-- ==== Proof.ForwardClaim.lean ====
/- The input projection's forward call and its reference end with equal results over the extended reals. -/
module

public import proofs.«01_k».proof.Proof.Forward
public import proofs.«01_k».proof.Proof.Refer
public import proofs.«01_k».proof.Proof.Gen.Reference7Ideal.Run
public import proofs.«01_k».proof.Defs

@[expose] public section

noncomputable section

open Idealize.ShloMosaic Idealize.ShloMosaic.TcCoe Idealize.SL.Sem Idealize.ShloMosaic.ValueIdx

namespace Cert.Proof

open Cert.Reference7Ideal Cert.Reference7Ideal.Gen

/-- The first of the chip's own columns. -/
def first (p : IVec S1 32) : IVec S_ 32 :=
  muli (constantI S_ 32 2176#32) (minsi (id (constantI S_ 32 3#32)) (maxsi (id (constantI S_ 32 0#32)) (shapeCast _ p shapeCasts_S1_S_)))

/-- The reference's test of every column. -/
def own (p : IVec S1 32) : IVec S8192x8704 1 :=
  broadcastInDim S8192x8704 ![1] bcast_S8704_S8192x8704_1 (andi (cmpi .sle (broadcastInDim S8704 ![] bcast_S_S8704 (first p)) (iotaInDim S8704 32 0))
    (cmpi .slt (iotaInDim S8704 32 0) (broadcastInDim S8704 ![] bcast_S_S8704 (addi (first p) (constantI S_ 32 2176#32)))))

theorem first_apply (p : IVec S1 32) (z : S_.Idx) :
    first p z = IntOp.muli 2176#32 (IntOp.minsi 3#32 (IntOp.maxsi 0#32 (p (ix1 0)))) :=
  congrArg (fun v : BitVec 32 => IntOp.muli 2176#32 (IntOp.minsi 3#32 (IntOp.maxsi 0#32 v))) (congrArg p (Cert.Kernel7Ideal.Forward.only _))

theorem own_apply (p : IVec S1 32) (r : Fin 8192) (q : Fin 8704) :
    own p (ix2 r q) = BitVec.ofBool (decide (q.val / 2176 = Cert.Turn.skip (p (ix1 0)))) := by
  refine Eq.trans ?_ (Cert.Turn.mask_eq (p (ix1 0)) q.isLt)
  unfold own
  rw [broadcastInDim_apply _ _ _ _ (ix1 q) fun a => by match a with | 0 => rfl]
  exact congrArg₂ (fun u v : BitVec 32 => IntOp.andi (IntOp.cmpi .sle u (BitVec.ofNat 32 q.val))
    (IntOp.cmpi .slt (BitVec.ofNat 32 q.val) (IntOp.addi v 2176#32))) (first_apply p _) (first_apply p _)

/-- The reference keeps the chip's own columns and multiplies out the others. -/
theorem forward_eq (m : (ℓ : Loc Cert.Kernel7Ideal.nD Cert.Kernel7Ideal.τ Cert.Kernel7Ideal.sig) → Buf (Elt Ideal) ℓ)
    (c : Dev Cert.Kernel7Ideal.nD) :
    (select (own (Cert.Kernel7Ideal.Forward.chip m c)) (Cert.Kernel7Ideal.Forward.carried m c)
      (Host.dotGeneral dot_S8192x1024_S1024x8704_S8192x8704_1_0_0_1_n_n none
        (extf (F := Ideal) .f32 (Cert.Kernel7Ideal.Forward.rowsIn m c) bitsLt_bf16_f32)
        (Cert.ReferenceIdeal.Refer.flat (Cert.Kernel7Ideal.Forward.groupsIn m c))) : Vec Ideal S8192x8704 .f32)
      = Cert.Kernel7Ideal.Forward.result m c := by
  funext y
  obtain ⟨r, q, rfl⟩ : ∃ (r : Fin 8192) (q : Fin 8704), y = ix2 r q := ⟨y 0, y 1, eq_ix2 y⟩
  unfold Cert.Kernel7Ideal.Forward.result
  by_cases h : q.val / 2176 = Cert.Turn.skip (Cert.Kernel7Ideal.Forward.chip m c (ix1 0))
  · exact (if_pos (by rw [own_apply, decide_eq_true h]; rfl)).trans (if_pos h).symm
  · refine (if_neg (by rw [own_apply, decide_eq_false h]; decide)).trans (Eq.trans ?_ (if_neg h).symm)
    refine (Cert.Entry.dot_entry (φ := .f32) dot_S8192x1024_S1024x8704_S8192x8704_1_0_0_1_n_n rfl rfl
      (fun _ _ _ => Shape.idx_ext₂ rfl rfl) (fun _ _ _ => Shape.idx_ext₂ rfl rfl) _ _ r q).trans ?_
    exact Cert.Entry.entry_congr _ _ _ _ r r q q (fun _ => rfl) fun k => Cert.ReferenceIdeal.Refer.flat_apply _ k q

theorem algebraic7 : Cert.algebraic_Kernel7Ideal_Reference7Ideal := by
  intro m ρ m' ρ' _ h
  refine ⟨fun c => Cert.Kernel7Ideal.Forward.result m c, Cert.Kernel7Ideal.Forward.run m ρ, ?_⟩
  refine (θ_run Cert.Reference7Ideal.defs _ _).mono (fun r g c => ?_) (Cert.Reference7Ideal.Value.run m' ρ')
  obtain ⟨h0, h1, h2, h3⟩ := h c
  refine ⟨(g c).1.trans ?_, (g c).2⟩
  rw [h0, h1, h2, h3]
  exact forward_eq m c

end Cert.Proof

end
-- ==== Proof.TailWhole.lean ====
/- The arrays that the tail leaves: row by row, the row's function of the arguments' rows and of the weights. -/
module

public import proofs.«01_k».proof.Proof.TailFrame
public import Idealize.ShloMosaic.Lib.Pipeline.Value

@[expose] public section

noncomputable section

open Idealize.ShloMosaic Idealize.ShloMosaic.TcCoe Idealize.SL.Sem Idealize.ShloMosaic.ValueIdx

namespace Cert.Kernel8Ideal.Whole

open Cert.Kernel8Ideal Cert.Kernel8Ideal.Gen

variable (m : (ℓ : Loc nD τ sig) → Buf (Elt Ideal) ℓ) (ρ : Dev nD → PrngReg) (c : Dev nD)

/-- If no two points share a block of a window and every point writes its block back, the blocks of the final array are what the
    points left. -/
theorem block_of (w : Fin cfg0.W) (hk : (cfg0.win w).kind = Pipeline.WinKind.blocked) (hi : ∀ t t' : Fin cfg0.N, (cfg0.win w).index t = (cfg0.win w).index t' → t = t')
    (hf : ∀ t : Fin cfg0.N, (cfg0.win w).flush t = true) (t : Fin cfg0.N) :
    ((cfg0.win w).blk t).view.read (Elt Ideal) ((dats m 0 c).arrAt w cfg0.N)
      = (cfg0.win w).cut (grid0.coords t) ((dats m 0 c).after w t) :=
  (dats m 0 c).read_blk_arrAt_eq_flushed w (fun t t' _ _ hne => (cfg0.win w).disjoint_blk (hk := hk) fun h => hne (hi t t' h)) cfg0.N t t.isLt (hf t)

/-- An array with these rows is the one of the arguments' rows. -/
theorem array_of {v : S8192x1024.Idx → EReal} {f : Cert.Tail.Weights → Cert.Tail.Row → Fin 1024 → EReal}
    (h : ∀ (t : Fin cfg0.N) (i : Fin 256) (k : Fin 1024), v (ix2 (at' t i) k) = f (mats m c t).at ((rows m c t).row i) k) :
    v = (args m c).array f := by
  funext z
  have hz : (z 0 : ℕ) < 8192 := (z 0).isLt
  obtain ⟨t, ht⟩ : ∃ t : Fin cfg0.N, t.val = (z 0 : ℕ) / 256 := ⟨⟨(z 0 : ℕ) / 256, by rw [points]; omega⟩, rfl⟩
  have e : at' t ⟨(z 0 : ℕ) % 256, Nat.mod_lt _ (by decide)⟩ = z 0 :=
    Fin.ext (by show 256 * t.val + (z 0 : ℕ) % 256 = (z 0 : ℕ); omega)
  have g := h t ⟨(z 0 : ℕ) % 256, Nat.mod_lt _ (by decide)⟩ (z 1)
  rw [row_eq, weights_eq, e] at g
  exact (congrArg v (eq_ix2 z)).trans g

/-! ## The results -/

theorem start16 : ∀ t : Fin cfg0.N, win0_16.index t 0 = t.val ∧ win0_16.index t 1 = 0 :=
  (by decide +kernel : ∀ t : Fin grid0.N, win0_16.index t 0 = t.val ∧ win0_16.index t 1 = 0)
theorem start18 : ∀ t : Fin cfg0.N, win0_18.index t 0 = t.val ∧ win0_18.index t 1 = 0 :=
  (by decide +kernel : ∀ t : Fin grid0.N, win0_18.index t 0 = t.val ∧ win0_18.index t 1 = 0)
theorem start21 : ∀ t : Fin cfg0.N, win0_21.index t 0 = t.val ∧ win0_21.index t 1 = 0 :=
  (by decide +kernel : ∀ t : Fin grid0.N, win0_21.index t 0 = t.val ∧ win0_21.index t 1 = 0)
theorem start22 : ∀ t : Fin cfg0.N, win0_22.index t 0 = t.val ∧ win0_22.index t 1 = 0 :=
  (by decide +kernel : ∀ t : Fin grid0.N, win0_22.index t 0 = t.val ∧ win0_22.index t 1 = 0)
theorem start23 : ∀ t : Fin cfg0.N, win0_23.index t 0 = t.val ∧ win0_23.index t 1 = 0 :=
  (by decide +kernel : ∀ t : Fin grid0.N, win0_23.index t 0 = t.val ∧ win0_23.index t 1 = 0)
theorem start24 : ∀ t : Fin cfg0.N, win0_24.index t 0 = t.val ∧ win0_24.index t 1 = 0 :=
  (by decide +kernel : ∀ t : Fin grid0.N, win0_24.index t 0 = t.val ∧ win0_24.index t 1 = 0)
theorem start25 : ∀ t : Fin cfg0.N, win0_25.index t 0 = t.val ∧ win0_25.index t 1 = 0 :=
  (by decide +kernel : ∀ t : Fin grid0.N, win0_25.index t 0 = t.val ∧ win0_25.index t 1 = 0)
theorem start26 : ∀ t : Fin cfg0.N, win0_26.index t 0 = t.val ∧ win0_26.index t 1 = 0 :=
  (by decide +kernel : ∀ t : Fin grid0.N, win0_26.index t 0 = t.val ∧ win0_26.index t 1 = 0)

theorem result16 : (dats m 0 c).arrAt 16 cfg0.N = (args m c).array Cert.Tail.dx := by
  refine array_of m c fun t i k => ?_
  obtain ⟨h0, h1⟩ := start16 t
  have e := congrFun (block_of m c 16 rfl (fun t t' h => Fin.ext ((start16 t).1.symm.trans ((congrFun h 0).trans (start16 t').1)))
    (by decide +kernel : ∀ t : Fin grid0.N, win0_16.flush t = true) t) (ix2 i k)
  rw [View.read_apply, after16] at e
  refine (congrArg ((dats m 0 c).arrAt 16 cfg0.N) (Shape.idx_ext₂ ?_ ?_)).trans (e.trans (Block.dx_apply _ _ i k))
  · show 256 * t.val + i.val = win0_16.index t 0 * 256 + 1 * i.val; omega
  · show k.val = win0_16.index t 1 * 1024 + 1 * k.val; omega
theorem result18 : (dats m 0 c).arrAt 18 cfg0.N = (args m c).array Cert.Tail.doa := by
  refine array_of m c fun t i k => ?_
  obtain ⟨h0, h1⟩ := start18 t
  have e := congrFun (block_of m c 18 rfl (fun t t' h => Fin.ext ((start18 t).1.symm.trans ((congrFun h 0).trans (start18 t').1)))
    (by decide +kernel : ∀ t : Fin grid0.N, win0_18.flush t = true) t) (ix2 i k)
  rw [View.read_apply, after18] at e
  refine (congrArg ((dats m 0 c).arrAt 18 cfg0.N) (Shape.idx_ext₂ ?_ ?_)).trans (e.trans (Block.doa_apply _ _ i k))
  · show 256 * t.val + i.val = win0_18.index t 0 * 256 + 1 * i.val; omega
  · show k.val = win0_18.index t 1 * 1024 + 1 * k.val; omega
theorem result21 : (dats m 0 c).arrAt 21 cfg0.N = (args m c).array Cert.Tail.gh := by
  refine array_of m c fun t i k => ?_
  obtain ⟨h0, h1⟩ := start21 t
  have e := congrFun (block_of m c 21 rfl (fun t t' h => Fin.ext ((start21 t).1.symm.trans ((congrFun h 0).trans (start21 t').1)))
    (by decide +kernel : ∀ t : Fin grid0.N, win0_21.flush t = true) t) (ix2 i k)
  rw [View.read_apply, after21] at e
  refine (congrArg ((dats m 0 c).arrAt 21 cfg0.N) (Shape.idx_ext₂ ?_ ?_)).trans (e.trans (Block.gh_apply _ _ i k))
  · show 256 * t.val + i.val = win0_21.index t 0 * 256 + 1 * i.val; omega
  · show k.val = win0_21.index t 1 * 1024 + 1 * k.val; omega
theorem result22 : (dats m 0 c).arrAt 22 cfg0.N = (args m c).array (fun _ => Cert.Tail.ga) := by
  refine array_of m c fun t i k => ?_
  obtain ⟨h0, h1⟩ := start22 t
  have e := congrFun (block_of m c 22 rfl (fun t t' h => Fin.ext ((start22 t).1.symm.trans ((congrFun h 0).trans (start22 t').1)))
    (by decide +kernel : ∀ t : Fin grid0.N, win0_22.flush t = true) t) (ix2 i k)
  rw [View.read_apply, after22] at e
  refine (congrArg ((dats m 0 c).arrAt 22 cfg0.N) (Shape.idx_ext₂ ?_ ?_)).trans (e.trans (Block.ga_apply _ i k))
  · show 256 * t.val + i.val = win0_22.index t 0 * 256 + 1 * i.val; omega
  · show k.val = win0_22.index t 1 * 1024 + 1 * k.val; omega
theorem result23 : (dats m 0 c).arrAt 23 cfg0.N = (args m c).array Cert.Tail.mg := by
  refine array_of m c fun t i k => ?_
  obtain ⟨h0, h1⟩ := start23 t
  have e := congrFun (block_of m c 23 rfl (fun t t' h => Fin.ext ((start23 t).1.symm.trans ((congrFun h 0).trans (start23 t').1)))
    (by decide +kernel : ∀ t : Fin grid0.N, win0_23.flush t = true) t) (ix2 i k)
  rw [View.read_apply, after23] at e
  refine (congrArg ((dats m 0 c).arrAt 23 cfg0.N) (Shape.idx_ext₂ ?_ ?_)).trans (e.trans (Block.mg_apply _ _ i k))
  · show 256 * t.val + i.val = win0_23.index t 0 * 256 + 1 * i.val; omega
  · show k.val = win0_23.index t 1 * 1024 + 1 * k.val; omega
theorem result24 : (dats m 0 c).arrAt 24 cfg0.N = (args m c).array Cert.Tail.dyh := by
  refine array_of m c fun t i k => ?_
  obtain ⟨h0, h1⟩ := start24 t
  have e := congrFun (block_of m c 24 rfl (fun t t' h => Fin.ext ((start24 t).1.symm.trans ((congrFun h 0).trans (start24 t').1)))
    (by decide +kernel : ∀ t : Fin grid0.N, win0_24.flush t = true) t) (ix2 i k)
  rw [View.read_apply, after24] at e
  refine (congrArg ((dats m 0 c).arrAt 24 cfg0.N) (Shape.idx_ext₂ ?_ ?_)).trans (e.trans (Block.dyh_apply _ _ i k))
  · show 256 * t.val + i.val = win0_24.index t 0 * 256 + 1 * i.val; omega
  · show k.val = win0_24.index t 1 * 1024 + 1 * k.val; omega
theorem result25 : (dats m 0 c).arrAt 25 cfg0.N = (args m c).array Cert.Tail.dya := by
  refine array_of m c fun t i k => ?_
  obtain ⟨h0, h1⟩ := start25 t
  have e := congrFun (block_of m c 25 rfl (fun t t' h => Fin.ext ((start25 t).1.symm.trans ((congrFun h 0).trans (start25 t').1)))
    (by decide +kernel : ∀ t : Fin grid0.N, win0_25.flush t = true) t) (ix2 i k)
  rw [View.read_apply, after25] at e
  refine (congrArg ((dats m 0 c).arrAt 25 cfg0.N) (Shape.idx_ext₂ ?_ ?_)).trans (e.trans (Block.dya_apply _ _ i k))
  · show 256 * t.val + i.val = win0_25.index t 0 * 256 + 1 * i.val; omega
  · show k.val = win0_25.index t 1 * 1024 + 1 * k.val; omega
theorem result26 : (dats m 0 c).arrAt 26 cfg0.N = (args m c).array Cert.Tail.dx := by
  refine array_of m c fun t i k => ?_
  obtain ⟨h0, h1⟩ := start26 t
  have e := congrFun (block_of m c 26 rfl (fun t t' h => Fin.ext ((start26 t).1.symm.trans ((congrFun h 0).trans (start26 t').1)))
    (by decide +kernel : ∀ t : Fin grid0.N, win0_26.flush t = true) t) (ix2 i k)
  rw [View.read_apply, after26] at e
  refine (congrArg ((dats m 0 c).arrAt 26 cfg0.N) (Shape.idx_ext₂ ?_ ?_)).trans (e.trans (Block.dx_apply _ _ i k))
  · show 256 * t.val + i.val = win0_26.index t 0 * 256 + 1 * i.val; omega
  · show k.val = win0_26.index t 1 * 1024 + 1 * k.val; omega

/-- The run's results, and that it leaves its arguments. -/
theorem run : θ_run defs (onTc (τ := τ) (main (F := Ideal))) ⟨m, fun _ => 0, ρ⟩ fun r => ∀ c : Dev nD,
      r.2.mem (c.tc.loc main_v0_0) = (args m c).array Cert.Tail.dx
      ∧ r.2.mem (c.tc.loc main_v0_2) = (args m c).array Cert.Tail.doa
      ∧ r.2.mem (c.tc.loc main_v0_5) = (args m c).array Cert.Tail.gh
      ∧ r.2.mem (c.tc.loc main_v0_6) = (args m c).array (fun _ => Cert.Tail.ga)
      ∧ r.2.mem (c.tc.loc main_v0_7) = (args m c).array Cert.Tail.mg
      ∧ r.2.mem (c.tc.loc main_v0_8) = (args m c).array Cert.Tail.dyh
      ∧ r.2.mem (c.tc.loc main_v0_9) = (args m c).array Cert.Tail.dya
      ∧ r.2.mem (c.tc.loc main_v0_10) = (args m c).array Cert.Tail.dx
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9) :=
  (θ_run defs _ _).mono (fun r h c => ⟨((h.1 c).1 16).trans (result16 m c),
      ((h.1 c).1 18).trans (result18 m c),
      ((h.1 c).1 21).trans (result21 m c),
      ((h.1 c).1 22).trans (result22 m c),
      ((h.1 c).1 23).trans (result23 m c),
      ((h.1 c).1 24).trans (result24 m c),
      ((h.1 c).1 25).trans (result25 m c),
      ((h.1 c).1 26).trans (result26 m c), h.2 c⟩)
    (θ_run_and (run_main m ρ) (unchanged m ρ))

end Cert.Kernel8Ideal.Whole

end
-- ==== Proof.TailRef.lean ====
/- The tail's reference over the extended reals: the same rows, over the whole arrays. -/
module

public import proofs.«01_k».proof.Proof.TailRow
public import proofs.«01_k».proof.Proof.Entry
public import proofs.«01_k».proof.Proof.Refer
public import proofs.«01_k».proof.Proof.Gen.Reference8Ideal.Run

@[expose] public section

set_option maxRecDepth 65536

noncomputable section

open Idealize.ShloMosaic Idealize.ShloMosaic.TcCoe Idealize.SL.Sem Idealize.ShloMosaic.ValueIdx
open Cert.Tail (Args)
open scoped BigOperators

namespace Cert.Reference8Ideal.Refer

open Cert.Reference8Ideal Cert.Reference8Ideal.Gen Cert.Reference8Ideal.Value

/-- An array of rows, and a square weight. -/
abbrev Arr := FVec Ideal S8192x1024 .f32
abbrev Mat := FVec Ideal S1024x1024 .bf16

/-! ## The operations -/

def gate (v : Arr) : Arr :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf v)))
def silu (v : Arr) : Arr := mulf v (gate v)
def wide (b : Mat) : FVec Ideal S1024x1024 .f32 := extf .f32 b bitsLt_bf16_f32
def times (v : Arr) (b : Mat) : Arr := Host.dotGeneral dot_S8192x1024_S1024x1024_S8192x1024_1_0_0_1_n_n none v (wide b)
def back (v : Arr) (b : Mat) : Arr := Host.dotGeneral dot_S8192x1024_S1024x1024_S8192x1024_1_1_0_0_n_n none v (wide b)
def along (v : FVec Ideal S1x1024 .f32) : Arr := broadcastInDim S8192x1024 ![0, 1] bcast_S1x1024_S8192x1024_0_1 v
def across (v : FVec Ideal S8192x1 .f32) : Arr := broadcastInDim S8192x1024 ![0, 1] bcast_S8192x1_S8192x1024_0_1 v
def down (v : FVec Ideal S8192 .f32) : Arr := broadcastInDim S8192x1024 ![0] bcast_S8192_S8192x1024_0 v
def round (v : Arr) : FVec Ideal S8192x1024 .bf16 := truncf .bf16 v bitsLt_bf16_f32

theorem gate_apply (v : Arr) (y : S8192x1024.Idx) : gate v y = Ideal.logistic (v y) := Cert.Tail.sigmoid' (v y)
theorem silu_apply (v : Arr) (y : S8192x1024.Idx) : silu v y = Cert.Tail.silu (v y) := congrArg (v y * ·) (gate_apply v y)
theorem times_apply (v : Arr) (b : Mat) (i : Fin 8192) (k : Fin 1024) : times v b (ix2 i k) = ∑ j : Fin 1024, v (ix2 i j) * b (ix2 j k) :=
  Cert.Entry.dot_entry (φ := .f32) dot_S8192x1024_S1024x1024_S8192x1024_1_0_0_1_n_n rfl rfl
    (fun _ _ _ => Shape.idx_ext₂ rfl rfl) (fun _ _ _ => Shape.idx_ext₂ rfl rfl) v (wide b) i k
theorem back_apply (v : Arr) (b : Mat) (i : Fin 8192) (k : Fin 1024) : back v b (ix2 i k) = ∑ j : Fin 1024, v (ix2 i j) * b (ix2 k j) := by
  unfold back
  simp only [Host.dotGeneral]
  rw [Ideal.dotGeneral_apply, Cert.Sums.contracted _ 1024 rfl rfl]
  refine Finset.sum_congr rfl fun j _ => ?_
  exact congrArg₂ (· * ·) (congrArg v (Shape.idx_ext₂ rfl rfl)) (congrArg b (Shape.idx_ext₂ rfl rfl))
theorem along_apply (v : FVec Ideal S1x1024 .f32) (i : Fin 8192) (k : Fin 1024) : along v (ix2 i k) = v (ix2 0 k) :=
  broadcastInDim_apply _ _ _ _ (ix2 0 k) fun a => by match a with | 0 => rfl | 1 => rfl
theorem across_apply (v : FVec Ideal S8192x1 .f32) (i : Fin 8192) (k : Fin 1024) : across v (ix2 i k) = v (ix2 i 0) :=
  broadcastInDim_apply _ _ _ _ (ix2 i 0) fun a => by match a with | 0 => rfl | 1 => rfl
theorem down_apply (v : FVec Ideal S8192 .f32) (i : Fin 8192) (k : Fin 1024) : down v (ix2 i k) = v (ix1 i) :=
  broadcastInDim_apply _ _ _ _ (ix1 i) fun a => by match a with | 0 => rfl

/-! ## The heads -/

def split (o : Arr) : FVec Ideal S8192x8x128 .f32 := shapeCast _ o shapeCasts_S8192x1024_S8192x8x128
/-- The heads' scales. -/
def scales (o : Arr) : FVec Ideal S8192x8x1 .f32 :=
  Host.rsqrt (addf (Host.divf (broadcastInDim S8192x8x1 ![0, 1] bcast_S8192x8_S8192x8x1_0_1 (Host.reduceAdd (mulf (split o) (split o))
    (constant S_ .f32 0x00000000#32) reducesTo_S8192x8x128_S8192x8_d2 h_S_)) (broadcastInDim S8192x8x1 ![] bcast_S_S8192x8x1
    (constant S_ .f32 0x43000000#32))) (broadcastInDim S8192x8x1 ![] bcast_S_S8192x8x1 (constant S_ .f32 0x358637BD#32)))
/-- The heads normalised, times the norm's weights. -/
def heads (o : Arr) (hn : FVec Ideal S1x1024 .f32) : Arr :=
  shapeCast _ (mulf (mulf (split o) (broadcastInDim S8192x8x128 ![0, 1, 2] bcast_S8192x8x1_S8192x8x128_0_1_2 (scales o)))
    (broadcastInDim S8192x8x128 ![0, 1, 2] bcast_S1x8x128_S8192x8x128_0_1_2 (broadcastInDim S1x8x128 ![1, 2] bcast_S8x128_S1x8x128_1_2
      (shapeCast _ hn shapeCasts_S1x1024_S8x128 : FVec Ideal S8x128 .f32)))) shapeCasts_S8192x8x128_S8192x1024

theorem split_apply (o : Arr) (i : Fin 8192) (h : Fin 8) (c : Fin 128) :
    split o (ix3 i h c) = o (ix2 i ⟨128 * h.val + c.val, by omega⟩) := by
  unfold split
  exact shapeCast_apply _ _ _ (ix2 i ⟨128 * h.val + c.val, by omega⟩) (by
    rw [Shape.rowMajor_val_two, Shape.rowMajor_val_three]
    show i.val * 1024 + (128 * h.val + c.val) = (i.val * 8 + h.val) * 128 + c.val
    omega)

theorem scales_apply (o : Arr) (i : Fin 8192) (h : Fin 8) : scales o (ix3 i h 0) = Cert.Tail.headScale (fun j => o (ix2 i j)) h := by
  unfold scales Cert.Tail.headScale
  refine congrArg (fun v => Ideal.rsqrt (Ideal.div v _ + _)) ?_
  rw [broadcastInDim_apply _ _ _ _ (ix2 i h) fun a => by match a with | 0 => rfl | 1 => rfl]
  unfold Host.reduceAdd
  rw [Ideal.hostReduceAdd_def, Ideal.hostReduceAdd_single _ (by decide : S8192x8x128.Reduces [2] S8192x8)]
  refine (congrArg (· + _) Ideal.ofBits_zero_f32).trans ((zero_add _).trans (Finset.sum_congr rfl fun j _ => ?_))
  refine (congrArg (mulf (split o) (split o)) (show _ = ix3 i h j from ?_)).trans
    (congrArg₂ (· * ·) (split_apply o i h j) (split_apply o i h j))
  funext b
  match b with | 0 => rfl | 1 => rfl | 2 => rfl

theorem heads_apply (o : Arr) (hn : FVec Ideal S1x1024 .f32) (i : Fin 8192) (k : Fin 1024) : heads o hn (ix2 i k)
    = o (ix2 i k) * Cert.Tail.headScale (fun j => o (ix2 i j)) ⟨k.val / 128, by omega⟩ * hn (ix2 0 k) := by
  obtain ⟨h, c, rfl⟩ : ∃ (h : Fin 8) (c : Fin 128), k = ⟨128 * h.val + c.val, by omega⟩ :=
    ⟨⟨k.val / 128, by omega⟩, ⟨k.val % 128, by omega⟩, Fin.ext (by dsimp only; omega)⟩
  have d : (⟨(128 * h.val + c.val) / 128, by omega⟩ : Fin 8) = h := Fin.ext (by dsimp only; omega)
  show _ = _ * Cert.Tail.headScale _ ⟨(128 * h.val + c.val) / 128, _⟩ * _
  rw [d]
  unfold heads
  rw [shapeCast_apply _ _ _ (ix3 i h c) (by
    rw [Shape.rowMajor_val_two, Shape.rowMajor_val_three]
    show (i.val * 8 + h.val) * 128 + c.val = i.val * 1024 + (128 * h.val + c.val)
    omega)]
  refine congrArg₂ (· * ·) (congrArg₂ (· * ·) (split_apply o i h c) ?_) ?_
  · rw [broadcastInDim_apply _ _ _ _ (ix3 i h 0) fun a => by match a with | 0 => rfl | 1 => rfl | 2 => rfl]
    exact scales_apply o i h
  · rw [broadcastInDim_apply _ _ _ _ (ix3 0 h c) fun a => by match a with | 0 => rfl | 1 => rfl | 2 => rfl,
      broadcastInDim_apply _ _ _ _ (ix2 h c) fun a => by match a with | 0 => rfl | 1 => rfl]
    exact shapeCast_apply _ _ _ (ix2 0 ⟨128 * h.val + c.val, by omega⟩) (by
      rw [Shape.rowMajor_val_two, Shape.rowMajor_val_two]
      show 0 * 1024 + (128 * h.val + c.val) = h.val * 128 + c.val
      omega)

/-! ## Forward -/

variable (a : Args)

def hg : Arr := extractStridedSlice S8192x1024 ![0, 3072] (a.proj : FVec Ideal S8192x8704 .f32) slices_S8192x8704_S8192x1024_0_3072
def ag : Arr := extractStridedSlice S8192x1024 ![0, 5632] (a.proj : FVec Ideal S8192x8704 .f32) slices_S8192x8704_S8192x1024_0_5632
def mh : Arr := extractStridedSlice S8192x1024 ![0, 6656] (a.proj : FVec Ideal S8192x8704 .f32) slices_S8192x8704_S8192x1024_0_6656
def ma : Arr := extractStridedSlice S8192x1024 ![0, 7680] (a.proj : FVec Ideal S8192x8704 .f32) slices_S8192x8704_S8192x1024_0_7680
def gh : Arr := mulf (heads a.o a.hn) (silu (hg a))
def ga : Arr := mulf (a.oa : Arr) (silu (ag a))
def mg : Arr := addf (mulf (gate (mh a)) (times (gh a) a.bh)) (mulf (gate (ma a)) (times (ga a) a.ba))
def x2 : Arr := addf (a.x : Arr) (times (mg a) a.out)

variable (i : Fin 8192) (k : Fin 1024)

theorem hg_apply : hg a (ix2 i k) = (a.row i).hg k := congrArg a.proj (Shape.idx_ext₂ (Nat.zero_add _) rfl)
theorem ag_apply : ag a (ix2 i k) = (a.row i).ag k := congrArg a.proj (Shape.idx_ext₂ (Nat.zero_add _) rfl)
theorem mh_apply : mh a (ix2 i k) = (a.row i).mh k := congrArg a.proj (Shape.idx_ext₂ (Nat.zero_add _) rfl)
theorem ma_apply : ma a (ix2 i k) = (a.row i).ma k := congrArg a.proj (Shape.idx_ext₂ (Nat.zero_add _) rfl)
theorem gh_apply : gh a (ix2 i k) = Cert.Tail.gh a.weights (a.row i) k :=
  congrArg₂ (· * ·) (heads_apply a.o a.hn i k) ((silu_apply _ _).trans (congrArg _ (hg_apply a i k)))
theorem ga_apply : ga a (ix2 i k) = Cert.Tail.ga (a.row i) k :=
  congrArg (a.oa (ix2 i k) * ·) ((silu_apply _ _).trans (congrArg _ (ag_apply a i k)))
theorem mg_apply : mg a (ix2 i k) = Cert.Tail.mg a.weights (a.row i) k := by
  refine congrArg₂ (· + ·) (congrArg₂ (· * ·) ((gate_apply _ _).trans (congrArg _ (mh_apply a i k))) ((times_apply _ _ i k).trans
    (Finset.sum_congr rfl fun j _ => ?_))) (congrArg₂ (· * ·) ((gate_apply _ _).trans (congrArg _ (ma_apply a i k)))
    ((times_apply _ _ i k).trans (Finset.sum_congr rfl fun j _ => ?_)))
  · exact congrArg (· * a.bh (ix2 j k)) (gh_apply a i j)
  · exact congrArg (· * a.ba (ix2 j k)) (ga_apply a i j)
theorem x2_apply : x2 a (ix2 i k) = Cert.Tail.x2 a.weights (a.row i) k :=
  congrArg (a.x (ix2 i k) + ·) ((times_apply _ _ i k).trans (Finset.sum_congr rfl fun j _ => congrArg (· * a.out (ix2 j k)) (mg_apply a i j)))

/-! ## The gradient -/

open Cert.ReferenceIdeal.Refer (under root_apply correction correction_apply)

def root : FVec Ideal S8192x1 .f32 := Host.rsqrt (under (x2 a))
def err : Arr := subf (mulf (mulf (x2 a) (across (root a))) (along a.fn)) (a.t : Arr)
/-- The normalised rows' gradient. -/
def cot : Arr := mulf (mulf (down (Host.divf (broadcastInDim S8192 ![] bcast_S_S8192 (mulf (constant (F := Ideal) S_ .f32 0x3F000000#32)
    (constant S_ .f32 0x3F800000#32))) (broadcastInDim S8192 ![] bcast_S_S8192 (constant S_ .f32 0x44800000#32))))
  (mulf (broadcastInDim S8192x1024 ![] bcast_S_S8192x1024 (constant S_ .f32 0x40000000#32)) (err a))) (along a.fn)
/-- The residual's gradient. -/
def dx : Arr := addf (addf (mulf (cot a) (across (root a))) (mulf (x2 a) (down (correction (x2 a) (cot a)))))
  (mulf (down (correction (x2 a) (cot a))) (x2 a))
def dmg : Arr := back (dx a) a.out
def dyh : Arr := mulf (gate (mh a)) (dmg a)
def dya : Arr := mulf (gate (ma a)) (dmg a)
def doa : Arr := mulf (back (dya a) a.ba) (silu (ag a))

theorem root_x2 : root a (ix2 i 0) = Cert.Row.scale (Cert.Tail.x2 a.weights (a.row i)) :=
  (root_apply (x2 a) i 0).trans (congrArg Cert.Row.scale (funext fun j => x2_apply a i j))
theorem err_apply : err a (ix2 i k) = Cert.Tail.err a.weights (a.row i) k :=
  congrArg (· - a.t (ix2 i k)) (congrArg₂ (· * ·) (congrArg₂ (· * ·) (x2_apply a i k) ((across_apply _ i k).trans (root_x2 a i)))
    (along_apply a.fn i k))
theorem cot_apply : cot a (ix2 i k) = Cert.Tail.cot a.weights (a.row i) k := by
  refine congrArg₂ (· * ·) (Eq.trans ?_ (Cert.Tail.rate _)) (along_apply a.fn i k)
  exact congrArg₂ (· * ·) (down_apply _ i k) (congrArg (Ideal.ofBits .f32 0x40000000#32 * ·) (err_apply a i k))
theorem dx_apply : dx a (ix2 i k) = Cert.Tail.dx a.weights (a.row i) k := by
  have hc : down (correction (x2 a) (cot a)) (ix2 i k)
      = Cert.Row.corr (Cert.Tail.x2 a.weights (a.row i)) (Cert.Tail.cot a.weights (a.row i)) :=
    (down_apply _ i k).trans ((correction_apply (x2 a) (cot a) i).trans
      (congrArg₂ Cert.Row.corr (funext fun j => x2_apply a i j) (funext fun j => cot_apply a i j)))
  refine Eq.trans ?_ (Cert.Row.row (Cert.Tail.x2 a.weights (a.row i)) (Cert.Tail.cot a.weights (a.row i)) k).symm
  exact congrArg₂ (· + ·) (congrArg₂ (· + ·) (congrArg₂ (· * ·) (cot_apply a i k) ((across_apply _ i k).trans (root_x2 a i)))
    (congrArg₂ (· * ·) (x2_apply a i k) hc)) (congrArg₂ (· * ·) hc (x2_apply a i k))
theorem dmg_apply : dmg a (ix2 i k) = Cert.Tail.dmg a.weights (a.row i) k :=
  (back_apply _ _ i k).trans (Finset.sum_congr rfl fun j _ => congrArg (· * a.out (ix2 k j)) (dx_apply a i j))
theorem dyh_apply : dyh a (ix2 i k) = Cert.Tail.dyh a.weights (a.row i) k :=
  (congrArg₂ (· * ·) ((gate_apply _ _).trans (congrArg _ (mh_apply a i k))) (dmg_apply a i k)).trans (mul_comm _ _)
theorem dya_apply : dya a (ix2 i k) = Cert.Tail.dya a.weights (a.row i) k :=
  (congrArg₂ (· * ·) ((gate_apply _ _).trans (congrArg _ (ma_apply a i k))) (dmg_apply a i k)).trans (mul_comm _ _)
theorem doa_apply : doa a (ix2 i k) = Cert.Tail.doa a.weights (a.row i) k :=
  congrArg₂ (· * ·) ((back_apply _ _ i k).trans (Finset.sum_congr rfl fun j _ => congrArg (· * a.ba (ix2 k j)) (dya_apply a i j)))
    ((silu_apply _ _).trans (congrArg _ (ag_apply a i k)))

/-- An array with these entries is the one of the rows. -/
theorem array_of {v : S8192x1024.Idx → EReal} {f : Cert.Tail.Weights → Cert.Tail.Row → Fin 1024 → EReal}
    (h : ∀ i k, v (ix2 i k) = f a.weights (a.row i) k) : v = a.array f :=
  funext fun z => (congrArg v (eq_ix2 z)).trans (h (z 0) (z 1))

/-! ## The results -/

/-- The program's arguments. -/
def args (m : (ℓ : Loc nD τ sig) → Buf (Elt Ideal) ℓ) (c : Dev nD) : Args :=
  ⟨m (c.tc.loc main_arg0), m (c.tc.loc main_arg1), m (c.tc.loc main_arg3), m (c.tc.loc main_arg4), m (c.tc.loc main_arg2),
    m (c.tc.loc main_arg5), m (c.tc.loc main_arg6), m (c.tc.loc main_arg7), m (c.tc.loc main_arg8), m (c.tc.loc main_arg9)⟩

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem (c.tc.loc main_v91) = (args m c).array Cert.Tail.dx
        ∧ r.2.mem (c.tc.loc main_v96) = (args m c).array Cert.Tail.doa
        ∧ r.2.mem (c.tc.loc main_v97) = (args m c).array Cert.Tail.gh
        ∧ r.2.mem (c.tc.loc main_v98) = (args m c).array (fun _ => Cert.Tail.ga)
        ∧ r.2.mem (c.tc.loc main_v99) = (args m c).array Cert.Tail.mg
        ∧ r.2.mem (c.tc.loc main_v100) = (args m c).array Cert.Tail.dyh
        ∧ r.2.mem (c.tc.loc main_v101) = (args m c).array Cert.Tail.dya
        ∧ r.2.mem (c.tc.loc main_v102) = (args m c).array Cert.Tail.dx) := by
  refine (θ_run defs _ _).mono (fun r g c => ?_) (Value.run m ρ)
  obtain ⟨g0, g1, g2, g3, g4, g5, g6, g7, -⟩ := g c
  have e0 : res_main_v91 m c = dx (args m c) := rfl
  have e1 : res_main_v96 m c = doa (args m c) := rfl
  have e5 : res_main_v100 m c = round (dyh (args m c)) := rfl
  have e6 : res_main_v101 m c = round (dya (args m c)) := rfl
  have e7 : res_main_v102 m c = round (dx (args m c)) := rfl
  refine ⟨(g0.trans e0).trans (array_of _ (dx_apply _)), (g1.trans e1).trans (array_of _ (doa_apply _)), ?_, ?_, ?_,
    (g5.trans e5).trans (array_of _ (dyh_apply _)), (g6.trans e6).trans (array_of _ (dya_apply _)),
    (g7.trans e7).trans (array_of _ (dx_apply _))⟩
  · exact (g2.trans (show _ = round (gh (args m c)) from rfl)).trans (array_of _ (gh_apply _))
  · exact (g3.trans (show _ = round (ga (args m c)) from rfl)).trans (array_of _ (f := fun _ => Cert.Tail.ga) (ga_apply _))
  · exact (g4.trans (show _ = round (mg (args m c)) from rfl)).trans (array_of _ (mg_apply _))

end Cert.Reference8Ideal.Refer

end
-- ==== Proof.TailClaim.lean ====
/- The tail's call and its reference end with equal results over the extended reals. -/
module

public import proofs.«01_k».proof.Proof.TailWhole
public import proofs.«01_k».proof.Proof.TailRef
public import proofs.«01_k».proof.Defs

@[expose] public section

noncomputable section

open Idealize.ShloMosaic Idealize.ShloMosaic.TcCoe Idealize.SL.Sem

namespace Cert.Proof

theorem algebraic8 : Cert.algebraic_Kernel8Ideal_Reference8Ideal := by
  intro m ρ m' ρ' _ h
  refine ⟨fun c => (Cert.Kernel8Ideal.Whole.args m c).array Cert.Tail.dx,
    fun c => (Cert.Kernel8Ideal.Whole.args m c).array Cert.Tail.doa,
    fun c => (Cert.Kernel8Ideal.Whole.args m c).array Cert.Tail.gh,
    fun c => (Cert.Kernel8Ideal.Whole.args m c).array (fun _ => Cert.Tail.ga),
    fun c => (Cert.Kernel8Ideal.Whole.args m c).array Cert.Tail.mg,
    fun c => (Cert.Kernel8Ideal.Whole.args m c).array Cert.Tail.dyh,
    fun c => (Cert.Kernel8Ideal.Whole.args m c).array Cert.Tail.dya,
    fun c => (Cert.Kernel8Ideal.Whole.args m c).array Cert.Tail.dx,
    Cert.Kernel8Ideal.Whole.run m ρ, ?_⟩
  refine (θ_run Cert.Reference8Ideal.defs _ _).mono (fun r g c => ?_)
    (θ_run_and (Cert.Reference8Ideal.Refer.run m' ρ') (Cert.Reference8Ideal.Value.run m' ρ'))
  have e : Cert.Reference8Ideal.Refer.args m' c = Cert.Kernel8Ideal.Whole.args m c := by
    obtain ⟨h0, h1, h2, h3, h4, h5, h6, h7, h8, h9⟩ := h c
    unfold Cert.Reference8Ideal.Refer.args Cert.Kernel8Ideal.Whole.args
    rw [h0, h1, h2, h3, h4, h5, h6, h7, h8, h9]
  obtain ⟨g0, g1, g2, g3, g4, g5, g6, g7⟩ := g.1 c
  rw [e] at g0 g1 g2 g3 g4 g5 g6 g7
  exact ⟨g0, g1, g2, g3, g4, g5, g6, g7, (g.2 c).2.2.2.2.2.2.2.2⟩

end Cert.Proof

end
-- ==== Proof.lean ====
module

public import proofs.«01_k».proof.Proof.Frames
public import proofs.«01_k».proof.Proof.SquareClaim
public import proofs.«01_k».proof.Proof.GradClaim
public import proofs.«01_k».proof.Proof.WgradClaim
public import proofs.«01_k».proof.Proof.ForwardClaim
public import proofs.«01_k».proof.Proof.TailClaim
public import proofs.«01_k».proof.Proof.Gen.Kernel
public import proofs.«01_k».proof.Proof.Gen.KernelIdeal.Value
public import proofs.«01_k».proof.Proof.Gen.Kernel3
public import proofs.«01_k».proof.Proof.Gen.Kernel3Ideal.Value
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel8
public import proofs.«01_k».proof.Proof.Gen.Reference8Ideal.Run
public import proofs.«01_k».proof.Proof.Gen.ReferenceIdeal.Run
public import proofs.«01_k».proof.Proof.Gen.Reference3Ideal.Run

@[expose] public section

noncomputable section

namespace Cert.Proof

open Idealize.ShloMosaic Idealize.SL.Sem

/-- So does its reference. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run m ρ)

/-- So does its reference. -/
theorem frame_reference3 : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run m ρ)

/-- So does its reference. -/
theorem frame_reference4 : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run m ρ)

/-- So does its reference. -/
theorem frame_reference5 : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run m ρ)

/-- So does its reference. -/
theorem frame_reference6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run m ρ)

/-- So does its reference. -/
theorem frame_reference7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run m ρ)

/-- So does its reference. -/
theorem frame_reference8 : Cert.quiescent_Reference8Ideal := fun m ρ _ =>
  (θ_run Cert.Reference8Ideal.defs _ _).mono (fun r h => ⟨fun c => (h c).2.2.2.2.2.2.2.2,
      Idealize.ShloMosaic.sem_eq_zero_of_no_sems (by decide) r.2⟩)
    (Cert.Reference8Ideal.Value.run m ρ)

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  frame_kernel, frame_ideal, frame_reference,
  frame_kernel3, frame_ideal3, frame_reference3,
  frame_kernel4, frame_ideal4, frame_reference4,
  frame_kernel5, frame_ideal5, frame_reference5,
  frame_kernel6, frame_ideal6, frame_reference6,
  frame_kernel7, frame_ideal7, frame_reference7,
  frame_kernel8, frame_ideal8, frame_reference8,
  trivial, trivial, trivial, trivial, trivial, trivial, trivial,
  algebraic3, algebraic, algebraic4, algebraic5, algebraic6, algebraic7, algebraic8⟩

end Cert.Proof

end
